-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_logits_finite [hPre_logits_finite : Cert.Pre_logits_finite.Facts] (m : (ℓ : Loc Cert.KernelIdeal.nD Cert.KernelIdeal.τ Cert.KernelIdeal.sig) → Buf (Elt Ideal) ℓ) : Prop :=
  ∀ c : Dev Cert.KernelIdeal.nD,
    (Cert.Pre_logits_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_logits_finite [hPre_logits_finite : Cert.Pre_logits_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_logits_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_logits_finite [hKernelIdeal : Cert.KernelIdeal.Facts] [hPre_logits_finite : Cert.Pre_logits_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_logits_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_logits_finite [hReferenceIdeal : Cert.ReferenceIdeal.Facts] [hPre_logits_finite : Cert.Pre_logits_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_logits_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_logits_finite [hKernelIdeal : Cert.KernelIdeal.Facts] [hReferenceIdeal : Cert.ReferenceIdeal.Facts] [hPre_logits_finite : Cert.Pre_logits_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_logits_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v8)) (v3 : (c : Dev Cert.KernelIdeal.nD) → Buf (Elt Ideal) ((c.tc : Thread Cert.KernelIdeal.nD Cert.KernelIdeal.τ).loc Cert.KernelIdeal.main_v9)) (v4 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_v9) = v3 c
          ∧ r.2.mem ((c.tc : Thread Cert.KernelIdeal.nD Cert.KernelIdeal.τ).loc Cert.KernelIdeal.main_v10) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v167) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_v14) = v2 c
          ∧ r.2.mem ((c.tc : Thread Cert.ReferenceIdeal.nD Cert.ReferenceIdeal.τ).loc Cert.ReferenceIdeal.main_indices) = v3 c
          ∧ r.2.mem ((c.tc : Thread Cert.ReferenceIdeal.nD Cert.ReferenceIdeal.τ).loc Cert.ReferenceIdeal.main_values) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_logits_finite : Cert.Pre_logits_finite.Facts),
    quiescent_Kernel (hKernel := hKernel)
    ∧ quiescent_KernelIdeal (hKernelIdeal := hKernelIdeal)
    ∧ quiescent_KernelIdeal_pre_logits_finite (hKernelIdeal := hKernelIdeal) (hPre_logits_finite := hPre_logits_finite)
    ∧ quiescent_ReferenceIdeal (hReferenceIdeal := hReferenceIdeal)
    ∧ quiescent_ReferenceIdeal_pre_logits_finite (hReferenceIdeal := hReferenceIdeal) (hPre_logits_finite := hPre_logits_finite)
    ∧ preserves_Kernel_KernelIdeal
    ∧ algebraic_KernelIdeal_ReferenceIdeal_pre_logits_finite (hKernelIdeal := hKernelIdeal) (hReferenceIdeal := hReferenceIdeal) (hPre_logits_finite := hPre_logits_finite)
-- ==== Pre_logits_finite.lean ====
abbrev S16384x1024 : Shape := ⟨2, ![16384, 1024]⟩
abbrev S1024x8 : Shape := ⟨2, ![1024, 8]⟩
abbrev S8 : Shape := ⟨1, ![8]⟩
abbrev S8x1024x64 : Shape := ⟨3, ![8, 1024, 64]⟩
abbrev S16384x8 : Shape := ⟨2, ![16384, 8]⟩
abbrev S1x8 : Shape := ⟨2, ![1, 8]⟩
abbrev S_ : Shape := ⟨0, ![]⟩

class Facts : Prop where
  bcast_S8_S1x8_1 : S8.BroadcastsInDim S1x8 (![1] : Fin 1 → Fin S1x8.rank)
  bcast_S1x8_S16384x8_0_1 : S1x8.BroadcastsInDim S16384x8 (![0, 1] : Fin 2 → Fin S16384x8.rank)
  bcast_S_S16384x8 : S_.BroadcastsInDim S16384x8 (![] : Fin 0 → Fin S16384x8.rank)
  dot_S16384x1024_S1024x8_S16384x8_1_0_0_1_n_n_wf : DotDims.WF S16384x1024 S1024x8 S16384x8 [1] [0] [0] [1] [] []

variable [Facts]

def dot_S16384x1024_S1024x8_S16384x8_1_0_0_1_n_n : DotDims S16384x1024 S1024x8 S16384x8 where
  lhsContracting := [1]
  rhsContracting := [0]
  lhsNonContracting := [0]
  rhsNonContracting := [1]
  lhsBatch := []
  rhsBatch := []
  wf := dot_S16384x1024_S1024x8_S16384x8_1_0_0_1_n_n_wf
def fn {F : FTy → Type} [FloatOps F] (main_arg0 : FVec F S16384x1024 .f32) (main_arg1 : FVec F S16384x1024 .f32) (main_arg2 : FVec F S1024x8 .f32) (main_arg3 : FVec F S8 .f32) (main_arg4 : FVec F S8x1024x64 .f32) : IVec S16384x8 1 :=
  let main_v0 : FVec F S16384x8 .f32 := (fun l r => Host.dotGeneral dot_S16384x1024_S1024x8_S16384x8_1_0_0_1_n_n none l r) main_arg0 main_arg2
  let main_v1 : FVec F S1x8 .f32 := broadcastInDim S1x8 ![1] bcast_S8_S1x8_1 main_arg3
  let main_v2 : FVec F S16384x8 .f32 := broadcastInDim S16384x8 ![0, 1] bcast_S1x8_S16384x8_0_1 main_v1
  let main_v3 : FVec F S16384x8 .f32 := addf main_v0 main_v2
  let main_v4 : FVec F S16384x8 .f32 := Host.absf main_v3
  let main_cst : FVec F S_ .f32 := constant S_ .f32 0x7F800000#32
  let main_v5 : FVec F S16384x8 .f32 := broadcastInDim S16384x8 ![] bcast_S_S16384x8 main_cst
  let main_v6 : IVec S16384x8 1 := cmpf .olt main_v4 main_v5
  main_v6
-- ==== Kernel.lean ====
abbrev S16384x1024 : Shape := ⟨2, ![16384, 1024]⟩
abbrev S1024x8 : Shape := ⟨2, ![1024, 8]⟩
abbrev S8 : Shape := ⟨1, ![8]⟩
abbrev S8x1024x64 : Shape := ⟨3, ![8, 1024, 64]⟩
abbrev S1024x8x64 : Shape := ⟨3, ![1024, 8, 64]⟩
abbrev S1024x512 : Shape := ⟨2, ![1024, 512]⟩
abbrev S1x8 : Shape := ⟨2, ![1, 8]⟩
abbrev S8x16384 : Shape := ⟨2, ![8, 16384]⟩
abbrev S1x16384 : Shape := ⟨2, ![1, 16384]⟩
abbrev S2048x1024 : Shape := ⟨2, ![2048, 1024]⟩
abbrev S8x2048 : Shape := ⟨2, ![8, 2048]⟩
abbrev S1x2048 : Shape := ⟨2, ![1, 2048]⟩
abbrev S2048x8 : Shape := ⟨2, ![2048, 8]⟩
abbrev S2048 : Shape := ⟨1, ![2048]⟩
abbrev S1x1 : Shape := ⟨2, ![1, 1]⟩
abbrev S8x1 : Shape := ⟨2, ![8, 1]⟩
abbrev S2048x512 : Shape := ⟨2, ![2048, 512]⟩
abbrev S512x8 : Shape := ⟨2, ![512, 8]⟩
abbrev S1 : Shape := ⟨1, ![1]⟩
abbrev S16384 : Shape := ⟨1, ![16384]⟩
abbrev S_ : Shape := ⟨0, ![]⟩
abbrev S16384x8 : Shape := ⟨2, ![16384, 8]⟩
abbrev S16384x1 : Shape := ⟨2, ![16384, 1]⟩

abbrev nBuf : Space → Nat
  | .hbm => 18
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x8, .f32⟩
  | .hbm, ⟨3, _⟩ => ⟨S8, .f32⟩
  | .hbm, ⟨4, _⟩ => ⟨S8x1024x64, .f32⟩
  | .hbm, ⟨5, _⟩ => ⟨S1024x8x64, .f32⟩
  | .hbm, ⟨6, _⟩ => ⟨S1024x512, .f32⟩
  | .hbm, ⟨7, _⟩ => ⟨S1024x512, .bf16⟩
  | .hbm, ⟨8, _⟩ => ⟨S1x8, .f32⟩
  | .hbm, ⟨9, _⟩ => ⟨S8x16384, .f32⟩
  | .hbm, ⟨10, _⟩ => ⟨S1x16384, .i32⟩
  | .hbm, ⟨11, _⟩ => ⟨S1x16384, .f32⟩
  | .hbm, ⟨12, _⟩ => ⟨S1x1, .f32⟩
  | .hbm, ⟨13, _⟩ => ⟨S16384, .i32⟩
  | .hbm, ⟨14, _⟩ => ⟨S_, .f32⟩
  | .hbm, ⟨15, _⟩ => ⟨S16384x8, .f32⟩
  | .hbm, ⟨16, _⟩ => ⟨S16384x1, .i32⟩
  | .hbm, ⟨17, _⟩ => ⟨S16384x1, .f32⟩
  | .local _ .vmem, ⟨0, _⟩ => ⟨S2048x1024, .f32⟩
  | .local _ .vmem, ⟨1, _⟩ => ⟨S2048x1024, .f32⟩
  | .local _ .vmem, ⟨2, _⟩ => ⟨S1024x8, .f32⟩
  | .local _ .vmem, ⟨3, _⟩ => ⟨S1x8, .f32⟩
  | .local _ .vmem, ⟨4, _⟩ => ⟨S8x2048, .f32⟩
  | .local _ .vmem, ⟨5, _⟩ => ⟨S8x2048, .f32⟩
  | .local _ .vmem, ⟨6, _⟩ => ⟨S1x2048, .i32⟩
  | .local _ .vmem, ⟨7, _⟩ => ⟨S1x2048, .i32⟩
  | .local _ .vmem, ⟨8, _⟩ => ⟨S1x2048, .f32⟩
  | .local _ .vmem, ⟨9, _⟩ => ⟨S1x2048, .f32⟩
  | .local _ .vmem, ⟨10, _⟩ => ⟨S2048x1024, .f32⟩
  | .local _ .vmem, ⟨11, _⟩ => ⟨S2048x1024, .f32⟩
  | .local _ .vmem, ⟨12, _⟩ => ⟨S1x2048, .i32⟩
  | .local _ .vmem, ⟨13, _⟩ => ⟨S1x2048, .i32⟩
  | .local _ .vmem, ⟨14, _⟩ => ⟨S1024x512, .bf16⟩
  | .local _ .vmem, ⟨15, _⟩ => ⟨S1x1, .f32⟩
  | .local _ .vmem, ⟨16, _⟩ => ⟨S8x1, .f32⟩
  | .local _ .vmem, ⟨17, _⟩ => ⟨S8x1, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_scratch0 : Ref sig .tc := ⟨.vmem, 16, rfl⟩
abbrev cc1_scratch1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def k1_cond2 (i : grid1.Coords) : BitVec 1 :=
  let arg0 : BitVec 32 := BitVec.ofNat 32 (i 0).val
  let c7_i32 : BitVec 32 := 7#32
  let v63 : BitVec 1 := Scalar.cmpi .eq arg0 c7_i32
  let v64 : BitVec 32 := Scalar.extui v63
  let c0_i32_24 : BitVec 32 := 0#32
  let v65 : BitVec 1 := Scalar.cmpi .ne v64 c0_i32_24
  v65

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x2048 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1024x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]
-- ==== ReferenceIdeal.lean ====
abbrev S16384x1024 : Shape := ⟨2, ![16384, 1024]⟩
abbrev S1024x8 : Shape := ⟨2, ![1024, 8]⟩
abbrev S8 : Shape := ⟨1, ![8]⟩
abbrev S8x1024x64 : Shape := ⟨3, ![8, 1024, 64]⟩
abbrev S16384x8 : Shape := ⟨2, ![16384, 8]⟩
abbrev S1x8 : Shape := ⟨2, ![1, 8]⟩
abbrev S_ : Shape := ⟨0, ![]⟩
abbrev S16384 : Shape := ⟨1, ![16384]⟩
abbrev S16384x1 : Shape := ⟨2, ![16384, 1]⟩
abbrev S1x1024x64 : Shape := ⟨3, ![1, 1024, 64]⟩
abbrev S1024x64 : Shape := ⟨2, ![1024, 64]⟩
abbrev S16384x64 : Shape := ⟨2, ![16384, 64]⟩

abbrev nBuf : Space → Nat
  | .hbm => 267
  | .vmem => 0
  | .smem => 0
  | _ => 0

abbrev hbmTy0_0 (i : Nat) : BufTy := match i % 128 with
  | 0 => ⟨S16384x1024, .f32⟩
  | 1 => ⟨S16384x1024, .f32⟩
  | 2 => ⟨S1024x8, .f32⟩
  | 3 => ⟨S8, .f32⟩
  | 4 => ⟨S8x1024x64, .f32⟩
  | 5 => ⟨S16384x8, .f32⟩
  | 6 => ⟨S1x8, .f32⟩
  | 7 => ⟨S16384x8, .f32⟩
  | 8 => ⟨S16384x8, .f32⟩
  | 9 => ⟨S_, .f32⟩
  | 10 => ⟨S16384, .f32⟩
  | 11 => ⟨S_, .f32⟩
  | 12 => ⟨S16384, .f32⟩
  | 13 => ⟨S16384, .f32⟩
  | 14 => ⟨S16384x1, .f32⟩
  | 15 => ⟨S16384x8, .f32⟩
  | 16 => ⟨S16384x8, .f32⟩
  | 17 => ⟨S16384x8, .f32⟩
  | 18 => ⟨S_, .f32⟩
  | 19 => ⟨S16384, .f32⟩
  | 20 => ⟨S16384x1, .f32⟩
  | 21 => ⟨S16384x8, .f32⟩
  | 22 => ⟨S16384x8, .f32⟩
  | 23 => ⟨S16384x1, .f32⟩
  | 24 => ⟨S16384x1, .i32⟩
  | 25 => ⟨S16384, .i32⟩
  | 26 => ⟨S_, .i32⟩
  | 27 => ⟨S16384, .i32⟩
  | 28 => ⟨S16384, .i1⟩
  | 29 => ⟨S16384, .i32⟩
  | 30 => ⟨S_, .i32⟩
  | 31 => ⟨S_, .i32⟩
  | 32 => ⟨S1x1024x64, .f32⟩
  | 33 => ⟨S1024x64, .f32⟩
  | 34 => ⟨S16384x64, .f32⟩
  | 35 => ⟨S16384x64, .f32⟩
  | 36 => ⟨S_, .f32⟩
  | 37 => ⟨S16384, .f32⟩
  | 38 => ⟨S_, .f32⟩
  | 39 => ⟨S16384, .f32⟩
  | 40 => ⟨S16384, .f32⟩
  | 41 => ⟨S_, .f32⟩
  | 42 => ⟨S_, .f32⟩
  | 43 => ⟨S16384, .f32⟩
  | 44 => ⟨S16384, .f32⟩
  | 45 => ⟨S_, .f32⟩
  | 46 => ⟨S_, .f32⟩
  | 47 => ⟨S_, .i32⟩
  | 48 => ⟨S_, .i32⟩
  | 49 => ⟨S_, .f32⟩
  | 50 => ⟨S_, .f32⟩
  | 51 => ⟨S_, .i32⟩
  | 52 => ⟨S_, .i1⟩
  | 53 => ⟨S_, .f32⟩
  | 54 => ⟨S_, .f32⟩
  | 55 => ⟨S_, .f32⟩
  | 56 => ⟨S_, .f32⟩
  | 57 => ⟨S_, .i32⟩
  | 58 => ⟨S16384, .i32⟩
  | 59 => ⟨S16384, .i1⟩
  | 60 => ⟨S16384, .i32⟩
  | 61 => ⟨S_, .i32⟩
  | 62 => ⟨S_, .i32⟩
  | 63 => ⟨S1x1024x64, .f32⟩
  | 64 => ⟨S1024x64, .f32⟩
  | 65 => ⟨S16384x64, .f32⟩
  | 66 => ⟨S16384x64, .f32⟩
  | 67 => ⟨S_, .f32⟩
  | 68 => ⟨S16384, .f32⟩
  | 69 => ⟨S_, .f32⟩
  | 70 => ⟨S16384, .f32⟩
  | 71 => ⟨S16384, .f32⟩
  | 72 => ⟨S_, .f32⟩
  | 73 => ⟨S_, .f32⟩
  | 74 => ⟨S16384, .f32⟩
  | 75 => ⟨S16384, .f32⟩
  | 76 => ⟨S_, .f32⟩
  | 77 => ⟨S_, .f32⟩
  | 78 => ⟨S_, .i32⟩
  | 79 => ⟨S_, .i32⟩
  | 80 => ⟨S_, .f32⟩
  | 81 => ⟨S_, .f32⟩
  | 82 => ⟨S_, .i32⟩
  | 83 => ⟨S_, .i1⟩
  | 84 => ⟨S_, .f32⟩
  | 85 => ⟨S_, .f32⟩
  | 86 => ⟨S_, .f32⟩
  | 87 => ⟨S_, .i32⟩
  | 88 => ⟨S16384, .i32⟩
  | 89 => ⟨S16384, .i1⟩
  | 90 => ⟨S16384, .i32⟩
  | 91 => ⟨S_, .i32⟩
  | 92 => ⟨S_, .i32⟩
  | 93 => ⟨S1x1024x64, .f32⟩
  | 94 => ⟨S1024x64, .f32⟩
  | 95 => ⟨S16384x64, .f32⟩
  | 96 => ⟨S16384x64, .f32⟩
  | 97 => ⟨S_, .f32⟩
  | 98 => ⟨S16384, .f32⟩
  | 99 => ⟨S_, .f32⟩
  | 100 => ⟨S16384, .f32⟩
  | 101 => ⟨S16384, .f32⟩
  | 102 => ⟨S_, .f32⟩
  | 103 => ⟨S_, .f32⟩
  | 104 => ⟨S16384, .f32⟩
  | 105 => ⟨S16384, .f32⟩
  | 106 => ⟨S_, .f32⟩
  | 107 => ⟨S_, .f32⟩
  | 108 => ⟨S_, .i32⟩
  | 109 => ⟨S_, .i32⟩
  | 110 => ⟨S_, .f32⟩
  | 111 => ⟨S_, .f32⟩
  | 112 => ⟨S_, .i32⟩
  | 113 => ⟨S_, .i1⟩
  | 114 => ⟨S_, .f32⟩
  | 115 => ⟨S_, .f32⟩
  | 116 => ⟨S_, .f32⟩
  | 117 => ⟨S_, .i32⟩
  | 118 => ⟨S16384, .i32⟩
  | 119 => ⟨S16384, .i1⟩
  | 120 => ⟨S16384, .i32⟩
  | 121 => ⟨S_, .i32⟩
  | 122 => ⟨S_, .i32⟩
  | 123 => ⟨S1x1024x64, .f32⟩
  | 124 => ⟨S1024x64, .f32⟩
  | 125 => ⟨S16384x64, .f32⟩
  | 126 => ⟨S16384x64, .f32⟩
  | 127 => ⟨S_, .f32⟩
  | _ => ⟨S16384x1024, .f32⟩

abbrev hbmTy0_1 (i : Nat) : BufTy := match i % 128 with
  | 0 => ⟨S16384, .f32⟩
  | 1 => ⟨S_, .f32⟩
  | 2 => ⟨S16384, .f32⟩
  | 3 => ⟨S16384, .f32⟩
  | 4 => ⟨S_, .f32⟩
  | 5 => ⟨S_, .f32⟩
  | 6 => ⟨S16384, .f32⟩
  | 7 => ⟨S16384, .f32⟩
  | 8 => ⟨S_, .f32⟩
  | 9 => ⟨S_, .f32⟩
  | 10 => ⟨S_, .i32⟩
  | 11 => ⟨S_, .i32⟩
  | 12 => ⟨S_, .f32⟩
  | 13 => ⟨S_, .f32⟩
  | 14 => ⟨S_, .i32⟩
  | 15 => ⟨S_, .i1⟩
  | 16 => ⟨S_, .f32⟩
  | 17 => ⟨S_, .f32⟩
  | 18 => ⟨S_, .f32⟩
  | 19 => ⟨S_, .i32⟩
  | 20 => ⟨S16384, .i32⟩
  | 21 => ⟨S16384, .i1⟩
  | 22 => ⟨S16384, .i32⟩
  | 23 => ⟨S_, .i32⟩
  | 24 => ⟨S_, .i32⟩
  | 25 => ⟨S1x1024x64, .f32⟩
  | 26 => ⟨S1024x64, .f32⟩
  | 27 => ⟨S16384x64, .f32⟩
  | 28 => ⟨S16384x64, .f32⟩
  | 29 => ⟨S_, .f32⟩
  | 30 => ⟨S16384, .f32⟩
  | 31 => ⟨S_, .f32⟩
  | 32 => ⟨S16384, .f32⟩
  | 33 => ⟨S16384, .f32⟩
  | 34 => ⟨S_, .f32⟩
  | 35 => ⟨S_, .f32⟩
  | 36 => ⟨S16384, .f32⟩
  | 37 => ⟨S16384, .f32⟩
  | 38 => ⟨S_, .f32⟩
  | 39 => ⟨S_, .f32⟩
  | 40 => ⟨S_, .i32⟩
  | 41 => ⟨S_, .i32⟩
  | 42 => ⟨S_, .f32⟩
  | 43 => ⟨S_, .f32⟩
  | 44 => ⟨S_, .i32⟩
  | 45 => ⟨S_, .i1⟩
  | 46 => ⟨S_, .f32⟩
  | 47 => ⟨S_, .f32⟩
  | 48 => ⟨S_, .f32⟩
  | 49 => ⟨S_, .i32⟩
  | 50 => ⟨S16384, .i32⟩
  | 51 => ⟨S16384, .i1⟩
  | 52 => ⟨S16384, .i32⟩
  | 53 => ⟨S_, .i32⟩
  | 54 => ⟨S_, .i32⟩
  | 55 => ⟨S1x1024x64, .f32⟩
  | 56 => ⟨S1024x64, .f32⟩
  | 57 => ⟨S16384x64, .f32⟩
  | 58 => ⟨S16384x64, .f32⟩
  | 59 => ⟨S_, .f32⟩
  | 60 => ⟨S16384, .f32⟩
  | 61 => ⟨S_, .f32⟩
  | 62 => ⟨S16384, .f32⟩
  | 63 => ⟨S16384, .f32⟩
  | 64 => ⟨S_, .f32⟩
  | 65 => ⟨S_, .f32⟩
  | 66 => ⟨S16384, .f32⟩
  | 67 => ⟨S16384, .f32⟩
  | 68 => ⟨S_, .f32⟩
  | 69 => ⟨S_, .f32⟩
  | 70 => ⟨S_, .i32⟩
  | 71 => ⟨S_, .i32⟩
  | 72 => ⟨S_, .f32⟩
  | 73 => ⟨S_, .f32⟩
  | 74 => ⟨S_, .i32⟩
  | 75 => ⟨S_, .i1⟩
  | 76 => ⟨S_, .f32⟩
  | 77 => ⟨S_, .f32⟩
  | 78 => ⟨S_, .f32⟩
  | 79 => ⟨S_, .i32⟩
  | 80 => ⟨S16384, .i32⟩
  | 81 => ⟨S16384, .i1⟩
  | 82 => ⟨S16384, .i32⟩
  | 83 => ⟨S_, .i32⟩
  | 84 => ⟨S_, .i32⟩
  | 85 => ⟨S1x1024x64, .f32⟩
  | 86 => ⟨S1024x64, .f32⟩
  | 87 => ⟨S16384x64, .f32⟩
  | 88 => ⟨S16384x64, .f32⟩
  | 89 => ⟨S_, .f32⟩
  | 90 => ⟨S16384, .f32⟩
  | 91 => ⟨S_, .f32⟩
  | 92 => ⟨S16384, .f32⟩
  | 93 => ⟨S16384, .f32⟩
  | 94 => ⟨S_, .f32⟩
  | 95 => ⟨S_, .f32⟩
  | 96 => ⟨S16384, .f32⟩
  | 97 => ⟨S16384, .f32⟩
  | 98 => ⟨S_, .f32⟩
  | 99 => ⟨S_, .f32⟩
  | 100 => ⟨S_, .i32⟩
  | 101 => ⟨S_, .i32⟩
  | 102 => ⟨S_, .f32⟩
  | 103 => ⟨S_, .f32⟩
  | 104 => ⟨S_, .i32⟩
  | 105 => ⟨S_, .i1⟩
  | 106 => ⟨S_, .f32⟩
  | 107 => ⟨S_, .f32⟩
  | 108 => ⟨S_, .f32⟩
  | 109 => ⟨S_, .i32⟩
  | 110 => ⟨S16384, .i32⟩
  | 111 => ⟨S16384, .i1⟩
  | 112 => ⟨S16384, .i32⟩
  | 113 => ⟨S_, .i32⟩
  | 114 => ⟨S_, .i32⟩
  | 115 => ⟨S1x1024x64, .f32⟩
  | 116 => ⟨S1024x64, .f32⟩
  | 117 => ⟨S16384x64, .f32⟩
  | 118 => ⟨S16384x64, .f32⟩
  | 119 => ⟨S_, .f32⟩
  | 120 => ⟨S16384, .f32⟩
  | 121 => ⟨S_, .f32⟩
  | 122 => ⟨S16384, .f32⟩
  | 123 => ⟨S16384, .f32⟩
  | 124 => ⟨S_, .f32⟩
  | 125 => ⟨S_, .f32⟩
  | 126 => ⟨S16384, .f32⟩
  | 127 => ⟨S16384, .f32⟩
  | _ => ⟨S16384x1024, .f32⟩

abbrev hbmTy0_2 (i : Nat) : BufTy := match i % 128 with
  | 0 => ⟨S_, .f32⟩
  | 1 => ⟨S_, .f32⟩
  | 2 => ⟨S_, .i32⟩
  | 3 => ⟨S_, .i32⟩
  | 4 => ⟨S_, .f32⟩
  | 5 => ⟨S_, .f32⟩
  | 6 => ⟨S_, .i32⟩
  | 7 => ⟨S_, .i1⟩
  | 8 => ⟨S_, .f32⟩
  | 9 => ⟨S_, .f32⟩
  | 10 => ⟨S_, .f32⟩
  | _ => ⟨S16384x1024, .f32⟩

abbrev hbmTy (i : Nat) : BufTy := match i / 128 with
  | 0 => hbmTy0_0 i
  | 1 => hbmTy0_1 i
  | 2 => hbmTy0_2 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_values : Ref sig .tc := ⟨.hbm, 23, rfl⟩
abbrev main_indices : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_call0_v0 : Ref sig .tc := ⟨.hbm, 42, rfl⟩
abbrev main_call0_v1 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_c_7 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_8 : Ref sig .tc := ⟨.hbm, 51, rfl⟩
abbrev main_v32 : Ref sig .tc := ⟨.hbm, 52, rfl⟩
abbrev main_cst_9 : Ref sig .tc := ⟨.hbm, 53, rfl⟩
abbrev main_v33 : Ref sig .tc := ⟨.hbm, 54, rfl⟩
abbrev main_cst_10 : Ref sig .tc := ⟨.hbm, 55, rfl⟩
abbrev main_v34 : Ref sig .tc := ⟨.hbm, 56, rfl⟩
abbrev main_c_11 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_c_12 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_13 : Ref sig .tc := ⟨.hbm, 67, rfl⟩
abbrev main_v43 : Ref sig .tc := ⟨.hbm, 68, rfl⟩
abbrev main_cst_14 : Ref sig .tc := ⟨.hbm, 69, rfl⟩
abbrev main_v44 : Ref sig .tc := ⟨.hbm, 70, rfl⟩
abbrev main_v45 : Ref sig .tc := ⟨.hbm, 71, rfl⟩
abbrev main_cst_15 : Ref sig .tc := ⟨.hbm, 72, rfl⟩
abbrev main_call2_v0 : Ref sig .tc := ⟨.hbm, 73, rfl⟩
abbrev main_call2_v1 : Ref sig .tc := ⟨.hbm, 74, rfl⟩
abbrev main_v46 : Ref sig .tc := ⟨.hbm, 75, rfl⟩
abbrev main_cst_16 : Ref sig .tc := ⟨.hbm, 76, rfl⟩
abbrev main_v47 : Ref sig .tc := ⟨.hbm, 77, rfl⟩
abbrev main_c_17 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_c_18 : Ref sig .tc := ⟨.hbm, 82, rfl⟩
abbrev main_v51 : Ref sig .tc := ⟨.hbm, 83, rfl⟩
abbrev main_cst_19 : Ref sig .tc := ⟨.hbm, 84, rfl⟩
abbrev main_v52 : Ref sig .tc := ⟨.hbm, 85, rfl⟩
abbrev main_v53 : Ref sig .tc := ⟨.hbm, 86, rfl⟩
abbrev main_c_20 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_c_21 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_cst_22 : Ref sig .tc := ⟨.hbm, 97, rfl⟩
abbrev main_v62 : Ref sig .tc := ⟨.hbm, 98, rfl⟩
abbrev main_cst_23 : Ref sig .tc := ⟨.hbm, 99, rfl⟩
abbrev main_v63 : Ref sig .tc := ⟨.hbm, 100, rfl⟩
abbrev main_v64 : Ref sig .tc := ⟨.hbm, 101, rfl⟩
abbrev main_cst_24 : Ref sig .tc := ⟨.hbm, 102, rfl⟩
abbrev main_call4_v0 : Ref sig .tc := ⟨.hbm, 103, rfl⟩
abbrev main_call4_v1 : Ref sig .tc := ⟨.hbm, 104, rfl⟩
abbrev main_v65 : Ref sig .tc := ⟨.hbm, 105, rfl⟩
abbrev main_cst_25 : Ref sig .tc := ⟨.hbm, 106, rfl⟩
abbrev main_v66 : Ref sig .tc := ⟨.hbm, 107, rfl⟩
abbrev main_c_26 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_c_27 : Ref sig .tc := ⟨.hbm, 112, rfl⟩
abbrev main_v70 : Ref sig .tc := ⟨.hbm, 113, rfl⟩
abbrev main_cst_28 : Ref sig .tc := ⟨.hbm, 114, rfl⟩
abbrev main_v71 : Ref sig .tc := ⟨.hbm, 115, rfl⟩
abbrev main_v72 : Ref sig .tc := ⟨.hbm, 116, rfl⟩
abbrev main_c_29 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_c_30 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_cst_31 : Ref sig .tc := ⟨.hbm, 127, rfl⟩
abbrev main_v81 : Ref sig .tc := ⟨.hbm, 128, rfl⟩
abbrev main_cst_32 : Ref sig .tc := ⟨.hbm, 129, rfl⟩
abbrev main_v82 : Ref sig .tc := ⟨.hbm, 130, rfl⟩
abbrev main_v83 : Ref sig .tc := ⟨.hbm, 131, rfl⟩
abbrev main_cst_33 : Ref sig .tc := ⟨.hbm, 132, rfl⟩
abbrev main_call6_v0 : Ref sig .tc := ⟨.hbm, 133, rfl⟩
abbrev main_call6_v1 : Ref sig .tc := ⟨.hbm, 134, rfl⟩
abbrev main_v84 : Ref sig .tc := ⟨.hbm, 135, rfl⟩
abbrev main_cst_34 : Ref sig .tc := ⟨.hbm, 136, rfl⟩
abbrev main_v85 : Ref sig .tc := ⟨.hbm, 137, rfl⟩
abbrev main_c_35 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_c_36 : Ref sig .tc := ⟨.hbm, 142, rfl⟩
abbrev main_v89 : Ref sig .tc := ⟨.hbm, 143, rfl⟩
abbrev main_cst_37 : Ref sig .tc := ⟨.hbm, 144, rfl⟩
abbrev main_v90 : Ref sig .tc := ⟨.hbm, 145, rfl⟩
abbrev main_v91 : Ref sig .tc := ⟨.hbm, 146, rfl⟩
abbrev main_c_38 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_c_39 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_cst_40 : Ref sig .tc := ⟨.hbm, 157, rfl⟩
abbrev main_v100 : Ref sig .tc := ⟨.hbm, 158, rfl⟩
abbrev main_cst_41 : Ref sig .tc := ⟨.hbm, 159, rfl⟩
abbrev main_v101 : Ref sig .tc := ⟨.hbm, 160, rfl⟩
abbrev main_v102 : Ref sig .tc := ⟨.hbm, 161, rfl⟩
abbrev main_cst_42 : Ref sig .tc := ⟨.hbm, 162, rfl⟩
abbrev main_call8_v0 : Ref sig .tc := ⟨.hbm, 163, rfl⟩
abbrev main_call8_v1 : Ref sig .tc := ⟨.hbm, 164, rfl⟩
abbrev main_v103 : Ref sig .tc := ⟨.hbm, 165, rfl⟩
abbrev main_cst_43 : Ref sig .tc := ⟨.hbm, 166, rfl⟩
abbrev main_v104 : Ref sig .tc := ⟨.hbm, 167, rfl⟩
abbrev main_c_44 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_c_45 : Ref sig .tc := ⟨.hbm, 172, rfl⟩
abbrev main_v108 : Ref sig .tc := ⟨.hbm, 173, rfl⟩
abbrev main_cst_46 : Ref sig .tc := ⟨.hbm, 174, rfl⟩
abbrev main_v109 : Ref sig .tc := ⟨.hbm, 175, rfl⟩
abbrev main_v110 : Ref sig .tc := ⟨.hbm, 176, rfl⟩
abbrev main_c_47 : Ref sig .tc := ⟨.hbm, 177, rfl⟩
abbrev main_v111 : Ref sig .tc := ⟨.hbm, 178, rfl⟩
abbrev main_v112 : Ref sig .tc := ⟨.hbm, 179, rfl⟩
abbrev main_v113 : Ref sig .tc := ⟨.hbm, 180, rfl⟩
abbrev main_c_48 : Ref sig .tc := ⟨.hbm, 181, rfl⟩
abbrev main_v114 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_v118 : Ref sig .tc := ⟨.hbm, 186, rfl⟩
abbrev main_cst_49 : Ref sig .tc := ⟨.hbm, 187, rfl⟩
abbrev main_v119 : Ref sig .tc := ⟨.hbm, 188, rfl⟩
abbrev main_cst_50 : Ref sig .tc := ⟨.hbm, 189, rfl⟩
abbrev main_v120 : Ref sig .tc := ⟨.hbm, 190, rfl⟩
abbrev main_v121 : Ref sig .tc := ⟨.hbm, 191, rfl⟩
abbrev main_cst_51 : Ref sig .tc := ⟨.hbm, 192, rfl⟩
abbrev main_call10_v0 : Ref sig .tc := ⟨.hbm, 193, rfl⟩
abbrev main_call10_v1 : Ref sig .tc := ⟨.hbm, 194, rfl⟩
abbrev main_v122 : Ref sig .tc := ⟨.hbm, 195, rfl⟩
abbrev main_cst_52 : Ref sig .tc := ⟨.hbm, 196, rfl⟩
abbrev main_v123 : Ref sig .tc := ⟨.hbm, 197, rfl⟩
abbrev main_c_53 : Ref sig .tc := ⟨.hbm, 198, rfl⟩
abbrev main_v124 : Ref sig .tc := ⟨.hbm, 199, rfl⟩
abbrev main_v125 : Ref sig .tc := ⟨.hbm, 200, rfl⟩
abbrev main_v126 : Ref sig .tc := ⟨.hbm, 201, rfl⟩
abbrev main_c_54 : Ref sig .tc := ⟨.hbm, 202, rfl⟩
abbrev main_v127 : Ref sig .tc := ⟨.hbm, 203, rfl⟩
abbrev main_cst_55 : Ref sig .tc := ⟨.hbm, 204, rfl⟩
abbrev main_v128 : Ref sig .tc := ⟨.hbm, 205, rfl⟩
abbrev main_v129 : Ref sig .tc := ⟨.hbm, 206, rfl⟩
abbrev main_c_56 : Ref sig .tc := ⟨.hbm, 207, rfl⟩
abbrev main_v130 : Ref sig .tc := ⟨.hbm, 208, rfl⟩
abbrev main_v131 : Ref sig .tc := ⟨.hbm, 209, rfl⟩
abbrev main_v132 : Ref sig .tc := ⟨.hbm, 210, rfl⟩
abbrev main_c_57 : Ref sig .tc := ⟨.hbm, 211, rfl⟩
abbrev main_v133 : Ref sig .tc := ⟨.hbm, 212, rfl⟩
abbrev main_v134 : Ref sig .tc := ⟨.hbm, 213, rfl⟩
abbrev main_v135 : Ref sig .tc := ⟨.hbm, 214, rfl⟩
abbrev main_v136 : Ref sig .tc := ⟨.hbm, 215, rfl⟩
abbrev main_v137 : Ref sig .tc := ⟨.hbm, 216, rfl⟩
abbrev main_cst_58 : Ref sig .tc := ⟨.hbm, 217, rfl⟩
abbrev main_v138 : Ref sig .tc := ⟨.hbm, 218, rfl⟩
abbrev main_cst_59 : Ref sig .tc := ⟨.hbm, 219, rfl⟩
abbrev main_v139 : Ref sig .tc := ⟨.hbm, 220, rfl⟩
abbrev main_v140 : Ref sig .tc := ⟨.hbm, 221, rfl⟩
abbrev main_cst_60 : Ref sig .tc := ⟨.hbm, 222, rfl⟩
abbrev main_call12_v0 : Ref sig .tc := ⟨.hbm, 223, rfl⟩
abbrev main_call12_v1 : Ref sig .tc := ⟨.hbm, 224, rfl⟩
abbrev main_v141 : Ref sig .tc := ⟨.hbm, 225, rfl⟩
abbrev main_cst_61 : Ref sig .tc := ⟨.hbm, 226, rfl⟩
abbrev main_v142 : Ref sig .tc := ⟨.hbm, 227, rfl⟩
abbrev main_c_62 : Ref sig .tc := ⟨.hbm, 228, rfl⟩
abbrev main_v143 : Ref sig .tc := ⟨.hbm, 229, rfl⟩
abbrev main_v144 : Ref sig .tc := ⟨.hbm, 230, rfl⟩
abbrev main_v145 : Ref sig .tc := ⟨.hbm, 231, rfl⟩
abbrev main_c_63 : Ref sig .tc := ⟨.hbm, 232, rfl⟩
abbrev main_v146 : Ref sig .tc := ⟨.hbm, 233, rfl⟩
abbrev main_cst_64 : Ref sig .tc := ⟨.hbm, 234, rfl⟩
abbrev main_v147 : Ref sig .tc := ⟨.hbm, 235, rfl⟩
abbrev main_v148 : Ref sig .tc := ⟨.hbm, 236, rfl⟩
abbrev main_c_65 : Ref sig .tc := ⟨.hbm, 237, rfl⟩
abbrev main_v149 : Ref sig .tc := ⟨.hbm, 238, rfl⟩
abbrev main_v150 : Ref sig .tc := ⟨.hbm, 239, rfl⟩
abbrev main_v151 : Ref sig .tc := ⟨.hbm, 240, rfl⟩
abbrev main_c_66 : Ref sig .tc := ⟨.hbm, 241, rfl⟩
abbrev main_v152 : Ref sig .tc := ⟨.hbm, 242, rfl⟩
abbrev main_v153 : Ref sig .tc := ⟨.hbm, 243, rfl⟩
abbrev main_v154 : Ref sig .tc := ⟨.hbm, 244, rfl⟩
abbrev main_v155 : Ref sig .tc := ⟨.hbm, 245, rfl⟩
abbrev main_v156 : Ref sig .tc := ⟨.hbm, 246, rfl⟩
abbrev main_cst_67 : Ref sig .tc := ⟨.hbm, 247, rfl⟩
abbrev main_v157 : Ref sig .tc := ⟨.hbm, 248, rfl⟩
abbrev main_cst_68 : Ref sig .tc := ⟨.hbm, 249, rfl⟩
abbrev main_v158 : Ref sig .tc := ⟨.hbm, 250, rfl⟩
abbrev main_v159 : Ref sig .tc := ⟨.hbm, 251, rfl⟩
abbrev main_cst_69 : Ref sig .tc := ⟨.hbm, 252, rfl⟩
abbrev main_call14_v0 : Ref sig .tc := ⟨.hbm, 253, rfl⟩
abbrev main_call14_v1 : Ref sig .tc := ⟨.hbm, 254, rfl⟩
abbrev main_v160 : Ref sig .tc := ⟨.hbm, 255, rfl⟩
abbrev main_cst_70 : Ref sig .tc := ⟨.hbm, 256, rfl⟩
abbrev main_v161 : Ref sig .tc := ⟨.hbm, 257, rfl⟩
abbrev main_c_71 : Ref sig .tc := ⟨.hbm, 258, rfl⟩
abbrev main_v162 : Ref sig .tc := ⟨.hbm, 259, rfl⟩
abbrev main_v163 : Ref sig .tc := ⟨.hbm, 260, rfl⟩
abbrev main_v164 : Ref sig .tc := ⟨.hbm, 261, rfl⟩
abbrev main_c_72 : Ref sig .tc := ⟨.hbm, 262, rfl⟩
abbrev main_v165 : Ref sig .tc := ⟨.hbm, 263, rfl⟩
abbrev main_cst_73 : Ref sig .tc := ⟨.hbm, 264, rfl⟩
abbrev main_v166 : Ref sig .tc := ⟨.hbm, 265, rfl⟩
abbrev main_v167 : Ref sig .tc := ⟨.hbm, 266, rfl⟩

abbrev nD : Nat := 1
abbrev τ : Topo := Topo.v7x

variable {F : FTy → Type} [FloatOps F]
-- ==== Proof.RouterRegion.lean ====
/-
  The first pallas_call (`_router_body`), one grid point at a time.

  At a grid point the body loads a tile of 2048 tokens' gate features, the router weights and the bias, and stores
  three tiles: the probabilities (8 × 2048), the chosen expert of each token (1 × 2048) and that expert's probability
  (1 × 2048). Each is one payload of the generated skeleton at the three loaded blocks. `router_triple` says so of the
  body on any staging buffers; `routerDat` is the pipeline's proof data over any contents `V` the region is entered
  with, and `router_obligation` the obligation the launch asks for. Everything here holds for any float values `F`.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.VecWindow
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Reading back a whole-buffer store of payload `w` gives `w`. -/
theorem read_store_whole {sp : Space} {s : Shape} {e : EltTy} (v : View sig .tc sp s e) (f : v.ty.Contents (Elt F))
    {off : Fin s.rank → ℕ} (inb : ∀ a, off a + s.size a ≤ s.size a)
    (w : (Rect.unit off s.size inb).shape.Idx → Elt F e) (L : List (View.Piece (Elt F) s e)) (w' : s.Idx → Elt F e) (h : w = w') :
    v.read (Elt F) (v.writes (Elt F) f (⟨Rect.unit off s.size inb, w⟩ :: L)) = w' :=
  (View.read_writes_full v f inb w L).trans h

set_option maxHeartbeats 1000000 in
/-- The router body on whole staging buffers: from the three input blocks it stores the probabilities, the choice and
    the chosen probability, and leaves the inputs as they were. -/
theorem router_triple (c : Dev nD) (E : Set ℕ) (i : grid0.Coords)
    (a1 : Memref sig .tc .vmem S2048x1024 .f32) (h1 : a1.IsWhole) (a2 : Memref sig .tc .vmem S1024x8 .f32) (h2 : a2.IsWhole)
    (a3 : Memref sig .tc .vmem S1x8 .f32) (h3 : a3.IsWhole) (a4 : Memref sig .tc .vmem S8x2048 .f32) (h4 : a4.IsWhole)
    (a5 : Memref sig .tc .vmem S1x2048 .i32) (h5 : a5.IsWhole) (a6 : Memref sig .tc .vmem S1x2048 .f32) (h6 : a6.IsWhole)
    (g : Vec F S2048x1024 .f32) (wg : Vec F S1024x8 .f32) (b : Vec F S1x8 .f32) (K : PUnit → sProp 𝕄) :
    iprop(owns (c : Thread nD τ) a1 fullShare g ∗ owns (c : Thread nD τ) a2 fullShare wg ∗ owns (c : Thread nD τ) a3 fullShare b
        ∗ (∃ d, owns (c : Thread nD τ) a4 fullShare d) ∗ (∃ d, owns (c : Thread nD τ) a5 fullShare d) ∗ (∃ d, owns (c : Thread nD τ) a6 fullShare d)
        ∗ (iprop(owns (c : Thread nD τ) a1 fullShare g ∗ owns (c : Thread nD τ) a2 fullShare wg ∗ owns (c : Thread nD τ) a3 fullShare b
            ∗ owns (c : Thread nD τ) a4 fullShare (k0_pay6 g wg b) ∗ owns (c : Thread nD τ) a5 fullShare (k0_pay5 g wg b)
            ∗ owns (c : Thread nD τ) a6 fullShare (k0_pay4 g wg b)) -∗ K ⟨⟩))
      ⊢ wp frame (wpE (defs₀ (F := F)) Variants.none c none) E (cc0__router_body i a1 h1 a2 h2 a3 h3 a4 h4 a5 h5 a6 h6) K := by
  simp only [cc0__router_body_eq_skeleton]; unfold cc0__router_body_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact read_store_whole _ _ _ _ _ _ (by congr 1 <;> exact View.readAt_full _ _ _)
  isplitl [H4]
  · iexists _; isplitr
    swap; · iexact H4
    ipureintro
    exact read_store_whole _ _ _ _ _ _ (by congr 1 <;> exact View.readAt_full _ _ _)
  iexists _; isplitr
  swap; · iexact H5
  ipureintro
  exact read_store_whole _ _ _ _ _ _ (by congr 1 <;> exact View.readAt_full _ _ _)

/-! ## The pipeline's proof data -/

variable (V : Dev nD → Valuation τ sig (Elt F))

/-- Window `w`'s block at point `t`, read off its array at the region's entry contents. -/
def rblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data: the inputs' buffers keep their blocks, the outputs' hold the body's payloads; the region's own
    invariant is the scoped buffers it never touches. -/
def routerDat (c : Dev nD) : Dat τ (Elt F) Unit ℕ (UR sig nD τ) ℕ cfg0 c where
  A w := V c (Pipeline.arrRef spec0 w)
  after w t := match w with
    | ⟨0, _⟩ => rblk V c 0 t
    | ⟨1, _⟩ => rblk V c 1 t
    | ⟨2, _⟩ => rblk V c 2 t
    | ⟨3, _⟩ => k0_pay6 (rblk V c 0 t) (rblk V c 1 t) (rblk V c 2 t)
    | ⟨4, _⟩ => k0_pay5 (rblk V c 0 t) (rblk V c 1 t) (rblk V c 2 t)
    | ⟨5, _⟩ => k0_pay4 (rblk V c 0 t) (rblk V c 1 t) (rblk V c 2 t)
  Φ _ := Pipeline.scopedRest spec0 c
  q _ := fullShare
  owed _ := 0

/-- The arrays start at the entry contents. -/
theorem routerDat_A (c : Dev nD) (w : Fin cfg0.W) : (routerDat V c).A w = V c (Pipeline.arrRef spec0 w) := by
  dsimp only [routerDat]

/-- The features' buffer keeps its block. -/
theorem router_after0 (c : Dev nD) (t : Fin cfg0.N) : (routerDat V c).after 0 t = rblk V c 0 t := by dsimp only [routerDat]
/-- The weights' buffer keeps its block. -/
theorem router_after1 (c : Dev nD) (t : Fin cfg0.N) : (routerDat V c).after 1 t = rblk V c 1 t := by dsimp only [routerDat]
/-- The bias's buffer keeps its block. -/
theorem router_after2 (c : Dev nD) (t : Fin cfg0.N) : (routerDat V c).after 2 t = rblk V c 2 t := by dsimp only [routerDat]
/-- The probabilities' buffer after point `t`. -/
theorem router_after3 (c : Dev nD) (t : Fin cfg0.N) :
    (routerDat V c).after 3 t = k0_pay6 (rblk V c 0 t) (rblk V c 1 t) (rblk V c 2 t) := by dsimp only [routerDat]
/-- The choices' buffer after point `t`. -/
theorem router_after4 (c : Dev nD) (t : Fin cfg0.N) :
    (routerDat V c).after 4 t = k0_pay5 (rblk V c 0 t) (rblk V c 1 t) (rblk V c 2 t) := by dsimp only [routerDat]
/-- The chosen probabilities' buffer after point `t`. -/
theorem router_after5 (c : Dev nD) (t : Fin cfg0.N) :
    (routerDat V c).after 5 t = k0_pay4 (rblk V c 0 t) (rblk V c 1 t) (rblk V c 2 t) := by dsimp only [routerDat]

/-- An input window's staging buffer holds its block whenever the body runs. -/
theorem router_before0 (c : Dev nD) (t : Fin cfg0.N) (d) : (routerDat V c).before 0 t d = rblk V c 0 t :=
  ((routerDat V c).before_in_eq_fetched 0 rfl (fun _ => rfl) (fun _ _ _ => rfl)
    (fun t => by rw [router_after0]; unfold Dat.blockOf rblk; rw [routerDat_A]) t d).trans
    (by unfold Dat.fetched Dat.blockOf rblk; rw [routerDat_A]; rfl)
/-- The weights' buffer holds its block when the body runs. -/
theorem router_before1 (c : Dev nD) (t : Fin cfg0.N) (d) : (routerDat V c).before 1 t d = rblk V c 1 t :=
  ((routerDat V c).before_in_eq_fetched 1 rfl (fun _ => rfl) (fun _ _ _ => rfl)
    (fun t => by rw [router_after1]; unfold Dat.blockOf rblk; rw [routerDat_A]) t d).trans
    (by unfold Dat.fetched Dat.blockOf rblk; rw [routerDat_A]; rfl)
/-- The bias's buffer holds its block when the body runs. -/
theorem router_before2 (c : Dev nD) (t : Fin cfg0.N) (d) : (routerDat V c).before 2 t d = rblk V c 2 t :=
  ((routerDat V c).before_in_eq_fetched 2 rfl (fun _ => rfl) (fun _ _ _ => rfl)
    (fun t => by rw [router_after2]; unfold Dat.blockOf rblk; rw [routerDat_A]) t d).trans
    (by unfold Dat.fetched Dat.blockOf rblk; rw [routerDat_A]; rfl)

/-! ## The body obligation -/

/-- What the body is called with at point `t`, window by window. -/
def routerPre (c : Dev nD) (t : Fin cfg0.N) : sProp 𝕄 :=
  iprop((routerDat V c).Φ t.castSucc ∗ (routerDat V c).owesAt () t.castSucc
    ∗ (∃ d, owns (c : Thread nD τ) (st0_0 t) fullShare ((routerDat V c).before 0 t d))
    ∗ (∃ d, owns (c : Thread nD τ) (st0_1 t) fullShare ((routerDat V c).before 1 t d))
    ∗ (∃ d, owns (c : Thread nD τ) (st0_2 t) fullShare ((routerDat V c).before 2 t d))
    ∗ (∃ d, owns (c : Thread nD τ) (st0_3 t) fullShare ((routerDat V c).before 3 t d))
    ∗ (∃ d, owns (c : Thread nD τ) (st0_4 t) fullShare ((routerDat V c).before 4 t d))
    ∗ (∃ d, owns (c : Thread nD τ) (st0_5 t) fullShare ((routerDat V c).before 5 t d)))

/-- What it returns. -/
def routerPost (c : Dev nD) (t : Fin cfg0.N) : sProp 𝕄 :=
  iprop((routerDat V c).Φ t.succ ∗ (routerDat V c).owesAt () t.succ
    ∗ owns (c : Thread nD τ) (st0_0 t) fullShare ((routerDat V c).after 0 t)
    ∗ owns (c : Thread nD τ) (st0_1 t) fullShare ((routerDat V c).after 1 t)
    ∗ owns (c : Thread nD τ) (st0_2 t) fullShare ((routerDat V c).after 2 t)
    ∗ owns (c : Thread nD τ) (st0_3 t) fullShare ((routerDat V c).after 3 t)
    ∗ owns (c : Thread nD τ) (st0_4 t) fullShare ((routerDat V c).after 4 t)
    ∗ owns (c : Thread nD τ) (st0_5 t) fullShare ((routerDat V c).after 5 t))

/-- The body at any point takes the one to the other. -/
theorem router_point (c : Dev nD) (t : Fin cfg0.N) :
    routerPre V c t ⊢ wp frame (wpE (defs₀ (F := F)) Variants.none c none) Set.univ (bodyAt0 t) (fun _ => routerPost V c t) := by
  unfold routerPre routerPost bodyAt0
  simp only [router_before0, router_before1, router_before2]
  rw [show (routerDat V c).Φ t.succ = (routerDat V c).Φ t.castSucc from rfl,
    show (routerDat V c).owesAt () t.succ = (routerDat V c).owesAt () t.castSucc from rfl,
    router_after0, router_after1, router_after2, router_after3, router_after4, router_after5]
  iintro ⟨HΦ, Ho, ⟨%d0, H0⟩, ⟨%d1, H1⟩, ⟨%d2, H2⟩, ⟨%d3, H3⟩, ⟨%d4, H4⟩, ⟨%d5, H5⟩⟩
  iapply (router_triple c Set.univ (grid0.coords t) _ _ _ _ _ _ _ _ _ _ _ _ (rblk V c 0 t) (rblk V c 1 t) (rblk V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The launch's obligation for the router's body. -/
theorem router_obligation (c : Dev nD) : BodyObligation (routerDat V c) (defs₀ (F := F)) Variants.none () Set.univ := fun t => by
  rw [bigSep_W0, bigSep_W0,
    show defs₀ (F := F) .tc cfg0.body (cfg0.bodyArgs t (cfg0.slots t)) = bodyAt0 t from by unfold defs₀; rw [Defs.onTc_tc]]
  exact triple_restated (router_point V c t) rfl .rfl fun _ => .rfl

end Cert.Moe

end
-- ==== Proof.ExpertRegion.lean ====
/-
  The second pallas_call (`_expert_body`), one grid point at a time.

  Two scratch columns of eight entries are carried from point to point: the experts' sums and the experts' counts. The
  first point sets both to zero; every point adds its tile's share; the last point also stores the loss. `expertAcc`
  is that recursion, `expert_first`, `expert_mid`, `expert_last` are the body's triples in the three cases,
  `expertDat` the pipeline's proof data over any contents `V` the region is entered with, and `expert_obligation` the
  obligation the launch asks for. Everything here holds for any float values `F`.
-/
module

public import proofs.«01_k».proof.Proof.RouterRegion

@[expose] public section

set_option maxRecDepth 16384

noncomputable section

namespace Cert.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's test for the first grid point. -/
abbrev atFirst (i : grid1.Coords) : Prop :=
  Scalar.cmpi .ne (Scalar.extui (Scalar.cmpi .eq (BitVec.ofNat 32 (i 0).val) 0#32) : BitVec 32) 0#32 = 1#1

/-- The body's test for the last grid point. -/
abbrev atLast (i : grid1.Coords) : Prop := k1_cond2 i = 1#1

/-- The first tile, by its number. -/
theorem atFirst_iff : ∀ t : Fin cfg1.N, atFirst (grid1.coords t) ↔ t.val % 8 = 0 :=
  (fun t => by
    have ht : t.val < 8 := Nat.lt_of_lt_of_eq t.isLt N_1
    have e0 : (grid1.coords t 0).val = t.val / 1 % 8 := Pipeline.Grid.coords_val t 0 (by decide) rfl
    simp only [atFirst, e0]
    word_cmp
   : ∀ t : Fin grid1.N, atFirst (grid1.coords t) ↔ t.val % 8 = 0)

/-- The last tile, by its number. -/
theorem atLast_iff : ∀ t : Fin cfg1.N, atLast (grid1.coords t) ↔ t.val % 8 = 7 :=
  (fun t => by
    have ht : t.val < 8 := Nat.lt_of_lt_of_eq t.isLt N_1
    have e0 : (grid1.coords t 0).val = t.val / 1 % 8 := Pipeline.Grid.coords_val t 0 (by decide) rfl
    simp only [atLast, k1_cond2, e0]
    word_cmp
   : ∀ t : Fin grid1.N, atLast (grid1.coords t) ↔ t.val % 8 = 7)

/-- The loss window is idle, and not written back, at every point but the last. -/
theorem loss_idle : ∀ t : Fin cfg1.N, ¬atLast (grid1.coords t) → cfg1.idle 3 (grid1.coords t) = true := by decide +kernel
/-- Before the last tile the loss is not written back. -/
theorem loss_noFlush : ∀ t : Fin cfg1.N, ¬atLast (grid1.coords t) → (cfg1.win 3).flush t = false := by decide +kernel
/-- At the last tile the loss window is in use. -/
theorem loss_live : ∀ t : Fin cfg1.N, atLast (grid1.coords t) → cfg1.idle 3 (grid1.coords t) = false := by decide +kernel

/-! ## The body's triples -/

/-- Equal blocks have equal mean squares. -/
theorem pay7_congr {x x' : Vec F S2048x1024 .f32} {w w' : Vec F S1024x512 .bf16} (hx : x = x') (hw : w = w') :
    k1_pay7 x w = k1_pay7 x' w' := by rw [hx, hw]
/-- Equal operands give equal sums. -/
theorem pay2_congr {p p' : Vec F S8x2048 .f32} {s s' : Vec F S1x2048 .i32} {q q' : Vec F S8x1 .f32} (hp : p = p') (hs : s = s')
    (hq : q = q') : k1_pay2 p s q = k1_pay2 p' s' q' := by rw [hp, hs, hq]
/-- Equal operands give equal counts. -/
theorem pay3_congr {s s' : Vec F S1x2048 .i32} {q q' : Vec F S8x1 .f32} (hs : s = s') (hq : q = q') :
    k1_pay3 s q = k1_pay3 s' q' := by rw [hs, hq]
/-- Equal columns give equal losses. -/
theorem pay4_congr {n n' q q' : Vec F S8x1 .f32} (hn : n = n') (hq : q = q') : k1_pay4 n q = k1_pay4 n' q' := by rw [hn, hq]

section Triples

variable (c : Dev nD) (E : Set ℕ) (i : grid1.Coords)
  (a1 : Memref sig .tc .vmem S2048x1024 .f32) (h1 : a1.IsWhole) (a2 : Memref sig .tc .vmem S1x2048 .i32) (h2 : a2.IsWhole)
  (a3 : Memref sig .tc .vmem S1024x512 .bf16) (h3 : a3.IsWhole) (a4 : Memref sig .tc .vmem S1x1 .f32) (h4 : a4.IsWhole)
  (a5 : Memref sig .tc .vmem S8x1 .f32) (h5 : a5.IsWhole) (a6 : Memref sig .tc .vmem S8x1 .f32) (h6 : a6.IsWhole)
  (x : Vec F S2048x1024 .f32) (s : Vec F S1x2048 .i32) (w : Vec F S1024x512 .bf16)

set_option maxHeartbeats 2000000 in
/-- The first point: whatever the two scratch columns held, they end as one step from zero; the loss window keeps its
    contents. -/
theorem expert_first (hf : atFirst i) (hl : ¬atLast i) (l : Vec F S1x1 .f32) (K : PUnit → sProp 𝕄) :
    iprop(owns (c : Thread nD τ) a1 fullShare x ∗ owns (c : Thread nD τ) a2 fullShare s ∗ owns (c : Thread nD τ) a3 fullShare w
        ∗ owns (c : Thread nD τ) a4 fullShare l ∗ (∃ d, owns (c : Thread nD τ) a5 fullShare d) ∗ (∃ d, owns (c : Thread nD τ) a6 fullShare d)
        ∗ (iprop(owns (c : Thread nD τ) a1 fullShare x ∗ owns (c : Thread nD τ) a2 fullShare s ∗ owns (c : Thread nD τ) a3 fullShare w
            ∗ owns (c : Thread nD τ) a4 fullShare l ∗ owns (c : Thread nD τ) a5 fullShare (k1_pay2 (k1_pay7 x w) s k1_pay5)
            ∗ owns (c : Thread nD τ) a6 fullShare (k1_pay3 s k1_pay6)) -∗ K ⟨⟩))
      ⊢ wp frame (wpE (defs₀ (F := F)) Variants.none c none) E (cc1__expert_body i a1 h1 a2 h2 a3 h3 a4 h4 a5 h5 a6 h6) K := by
  simp only [cc1__expert_body_eq_skeleton]; unfold cc1__expert_body_skel
  simp only [k1_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec (disch := first | sl_exact hf | sl_exact hl)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine read_store_whole _ _ _ _ _ _ ?_
    unfold expert_first.sl.v48 expert_first.sl.r expert_first.sl.H4_1
    exact pay2_congr (pay7_congr (View.readAt_full _ _ _) (View.readAt_full _ _ _)) (View.readAt_full _ _ _) (View.readCov_full _ _ _ _ _)
  iexists _; isplitr
  swap; · iexact H5
  ipureintro
  refine read_store_whole _ _ _ _ _ _ ?_
  unfold expert_first.sl.v56 expert_first.sl.H5_1
  exact pay3_congr (View.readAt_full _ _ _) (View.readCov_full _ _ _ _ _)

set_option maxHeartbeats 2000000 in
/-- A point between: the two scratch columns go one step on; the loss window keeps its contents. -/
theorem expert_mid (hf : ¬atFirst i) (hl : ¬atLast i) (l : Vec F S1x1 .f32) (q n : Vec F S8x1 .f32) (K : PUnit → sProp 𝕄) :
    iprop(owns (c : Thread nD τ) a1 fullShare x ∗ owns (c : Thread nD τ) a2 fullShare s ∗ owns (c : Thread nD τ) a3 fullShare w
        ∗ owns (c : Thread nD τ) a4 fullShare l ∗ owns (c : Thread nD τ) a5 fullShare q ∗ owns (c : Thread nD τ) a6 fullShare n
        ∗ (iprop(owns (c : Thread nD τ) a1 fullShare x ∗ owns (c : Thread nD τ) a2 fullShare s ∗ owns (c : Thread nD τ) a3 fullShare w
            ∗ owns (c : Thread nD τ) a4 fullShare l ∗ owns (c : Thread nD τ) a5 fullShare (k1_pay2 (k1_pay7 x w) s q)
            ∗ owns (c : Thread nD τ) a6 fullShare (k1_pay3 s n)) -∗ K ⟨⟩))
      ⊢ wp frame (wpE (defs₀ (F := F)) Variants.none c none) E (cc1__expert_body i a1 h1 a2 h2 a3 h3 a4 h4 a5 h5 a6 h6) K := by
  simp only [cc1__expert_body_eq_skeleton]; unfold cc1__expert_body_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0 hf1 hf2 hf3 hf4 hf5
  sl_exec (disch := first | sl_exact hf | sl_exact hl)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine read_store_whole _ _ _ _ _ _ ?_
    unfold expert_mid.sl.r
    exact pay2_congr (pay7_congr (View.readAt_full _ _ _) (View.readAt_full _ _ _)) (View.readAt_full _ _ _) (View.readAt_full _ _ _)
  iexists _; isplitr
  swap; · iexact H5
  ipureintro
  refine read_store_whole _ _ _ _ _ _ ?_
  exact pay3_congr (View.readAt_full _ _ _) (View.readAt_full _ _ _)

set_option maxHeartbeats 2000000 in
/-- The last point: the two scratch columns go one step on, and the loss is stored from what they then hold. -/
theorem expert_last (hf : ¬atFirst i) (hl : atLast i) (q n : Vec F S8x1 .f32) (K : PUnit → sProp 𝕄) :
    iprop(owns (c : Thread nD τ) a1 fullShare x ∗ owns (c : Thread nD τ) a2 fullShare s ∗ owns (c : Thread nD τ) a3 fullShare w
        ∗ (∃ d, owns (c : Thread nD τ) a4 fullShare d) ∗ owns (c : Thread nD τ) a5 fullShare q ∗ owns (c : Thread nD τ) a6 fullShare n
        ∗ (iprop(owns (c : Thread nD τ) a1 fullShare x ∗ owns (c : Thread nD τ) a2 fullShare s ∗ owns (c : Thread nD τ) a3 fullShare w
            ∗ owns (c : Thread nD τ) a4 fullShare (k1_pay4 (k1_pay3 s n) (k1_pay2 (k1_pay7 x w) s q))
            ∗ owns (c : Thread nD τ) a5 fullShare (k1_pay2 (k1_pay7 x w) s q)
            ∗ owns (c : Thread nD τ) a6 fullShare (k1_pay3 s n)) -∗ K ⟨⟩))
      ⊢ wp frame (wpE (defs₀ (F := F)) Variants.none c none) E (cc1__expert_body i a1 h1 a2 h2 a3 h3 a4 h4 a5 h5 a6 h6) K := by
  simp only [cc1__expert_body_eq_skeleton]; unfold cc1__expert_body_skel
  simp only [k1_part1_eq_skeleton]
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
  subst hf0 hf1 hf2 hf4 hf5
  sl_exec (disch := first | sl_exact hf | sl_exact hl)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine read_store_whole _ _ _ _ _ _ ?_
    unfold expert_last.sl.v66 expert_last.sl.v67 expert_last.sl.H5_1 expert_last.sl.H4_1 expert_last.sl.r
    exact pay4_congr
      ((View.readCov_full _ _ _ _ _).trans (pay3_congr (View.readAt_full _ _ _) (View.readAt_full _ _ _)))
      ((View.readCov_full _ _ _ _ _).trans (pay2_congr (pay7_congr (View.readAt_full _ _ _) (View.readAt_full _ _ _))
        (View.readAt_full _ _ _) (View.readAt_full _ _ _)))
  isplitl [H4]
  · iexists _; isplitr
    swap; · iexact H4
    ipureintro
    unfold expert_last.sl.H4_1
    refine read_store_whole _ _ _ _ _ _ ?_
    unfold expert_last.sl.r
    exact pay2_congr (pay7_congr (View.readAt_full _ _ _) (View.readAt_full _ _ _)) (View.readAt_full _ _ _) (View.readAt_full _ _ _)
  iexists _; isplitr
  swap; · iexact H5
  ipureintro
  unfold expert_last.sl.H5_1
  refine read_store_whole _ _ _ _ _ _ ?_
  exact pay3_congr (View.readAt_full _ _ _) (View.readAt_full _ _ _)

end Triples

/-! ## The pipeline's proof data -/

variable (V : Dev nD → Valuation τ sig (Elt F))

/-- Window `w`'s block at point `t`, read off its array at the region's entry contents. -/
def eblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The experts' sums and counts before point `n`: zero at first, then a tile's share more at each point. -/
def expertAcc (c : Dev nD) : ℕ → Vec F S8x1 .f32 × Vec F S8x1 .f32
  | 0 => (k1_pay5, k1_pay6)
  | n + 1 =>
    if h : n < cfg1.N then
      (k1_pay2 (k1_pay7 (eblk V c 0 ⟨n, h⟩) (eblk V c 2 ⟨n, h⟩)) (eblk V c 1 ⟨n, h⟩) (expertAcc c n).1,
        k1_pay3 (eblk V c 1 ⟨n, h⟩) (expertAcc c n).2)
    else expertAcc c n

/-- The two columns after one more tile. -/
theorem expertAcc_succ (c : Dev nD) (t : Fin cfg1.N) :
    expertAcc V c (t.val + 1) = (k1_pay2 (k1_pay7 (eblk V c 0 t) (eblk V c 2 t)) (eblk V c 1 t) (expertAcc V c t.val).1,
      k1_pay3 (eblk V c 1 t) (expertAcc V c t.val).2) := by
  rw [expertAcc, dif_pos t.isLt]

/-- A buffer held whole at some contents. -/
def someBuf (c : Dev nD) (r : Ref sig .tc) : sProp 𝕄 :=
  iprop(∃ f : Buf (Elt F) ((c : Thread nD τ).loc r), ((c : Thread nD τ).loc r) ↦{fullShare} f)

/-- The first call's staging buffers, which this call never touches. -/
def routerStages (c : Dev nD) : sProp 𝕄 :=
  iprop(someBuf (F := F) c cc0_stg0_0 ∗ someBuf (F := F) c cc0_stg0_1 ∗ someBuf (F := F) c cc0_stg1_0 ∗ someBuf (F := F) c cc0_stg2_0
    ∗ someBuf (F := F) c cc0_stg3_0 ∗ someBuf (F := F) c cc0_stg3_1 ∗ someBuf (F := F) c cc0_stg4_0 ∗ someBuf (F := F) c cc0_stg4_1
    ∗ someBuf (F := F) c cc0_stg5_0 ∗ someBuf (F := F) c cc0_stg5_1)

/-- The two scratch columns as memrefs. -/
abbrev sumScratch : Memref sig .tc .vmem S8x1 .f32 := Memref.whole cc1_scratch0
/-- The counts' column. -/
abbrev countScratch : Memref sig .tc .vmem S8x1 .f32 := Memref.whole cc1_scratch1

/-- The region's invariant before point `n`: the other call's staging buffers at anything, and the two scratch columns
    at anything before the first point, at the recursion's values after it. -/
def expertPhi (c : Dev nD) (n : ℕ) : sProp 𝕄 :=
  if n = 0 then Pipeline.scopedRest spec1 c
  else iprop(routerStages (F := F) c ∗ owns (c : Thread nD τ) sumScratch fullShare (expertAcc V c n).1
    ∗ owns (c : Thread nD τ) countScratch fullShare (expertAcc V c n).2)

/-- The scoped buffers the launch hands the region, split into the staging buffers and the two scratch columns. -/
theorem scopedRest_split (c : Dev nD) : (Pipeline.scopedRest spec1 c : sProp 𝕄)
    ⊢ iprop(routerStages (F := F) c ∗ (∃ d, owns (c : Thread nD τ) sumScratch fullShare d) ∗ (∃ d, owns (c : Thread nD τ) countScratch fullShare d)) := by
  rw [scopedRest1_eq]
  unfold routerStages someBuf
  simp only [owns_whole]
  iintro ⟨H0, H1, H2, H3, H4, H5, H6, H7, H8, H9, HS0, HS1⟩
  isplitl [H0 H1 H2 H3 H4 H5 H6 H7 H8 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [HS0]; · iexact HS0
  iexact HS1

/-- And put together again. -/
theorem scopedRest_join (c : Dev nD) :
    iprop(routerStages (F := F) c ∗ (∃ d, owns (c : Thread nD τ) sumScratch fullShare d) ∗ (∃ d, owns (c : Thread nD τ) countScratch fullShare d))
      ⊢ (Pipeline.scopedRest spec1 c : sProp 𝕄) := by
  rw [scopedRest1_eq]
  unfold routerStages someBuf
  simp only [owns_whole]
  iintro ⟨⟨H0, H1, H2, H3, H4, H5, H6, H7, H8, H9⟩, HS0, HS1⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  iexact HS1

/-- The proof data: the inputs' buffers keep their blocks; the loss window's buffer holds, at the last point, the loss
    of the final sums and counts. -/
def expertDat (c : Dev nD) : Dat τ (Elt F) Unit ℕ (UR sig nD τ) ℕ cfg1 c where
  A w := V c (Pipeline.arrRef spec1 w)
  after w t := match w with
    | ⟨0, _⟩ => eblk V c 0 t
    | ⟨1, _⟩ => eblk V c 1 t
    | ⟨2, _⟩ => eblk V c 2 t
    | ⟨3, _⟩ => k1_pay4 (expertAcc V c (t.val + 1)).2 (expertAcc V c (t.val + 1)).1
  Φ t := expertPhi V c t.val
  q _ := fullShare
  owed _ := 0

/-- The arrays start at the entry contents. -/
theorem expertDat_A (c : Dev nD) (w : Fin cfg1.W) : (expertDat V c).A w = V c (Pipeline.arrRef spec1 w) := by
  dsimp only [expertDat]

/-- The features' buffer keeps its block. -/
theorem expert_after0 (c : Dev nD) (t : Fin cfg1.N) : (expertDat V c).after 0 t = eblk V c 0 t := by dsimp only [expertDat]
/-- The choices' buffer keeps its block. -/
theorem expert_after1 (c : Dev nD) (t : Fin cfg1.N) : (expertDat V c).after 1 t = eblk V c 1 t := by dsimp only [expertDat]
/-- The weights' buffer keeps its block. -/
theorem expert_after2 (c : Dev nD) (t : Fin cfg1.N) : (expertDat V c).after 2 t = eblk V c 2 t := by dsimp only [expertDat]
/-- The loss window's buffer. -/
theorem expert_after3 (c : Dev nD) (t : Fin cfg1.N) :
    (expertDat V c).after 3 t = k1_pay4 (expertAcc V c (t.val + 1)).2 (expertAcc V c (t.val + 1)).1 := by dsimp only [expertDat]

/-- An input window's staging buffer holds its block whenever the body runs. -/
theorem expert_before0 (c : Dev nD) (t : Fin cfg1.N) (d) : (expertDat V c).before 0 t d = eblk V c 0 t :=
  ((expertDat V c).before_in_eq_fetched 0 rfl (fun _ => rfl) (fun _ _ _ => rfl)
    (fun t => by rw [expert_after0]; unfold Dat.blockOf eblk; rw [expertDat_A]) t d).trans
    (by unfold Dat.fetched Dat.blockOf eblk; rw [expertDat_A]; rfl)
/-- The choices' buffer holds its block when the body runs. -/
theorem expert_before1 (c : Dev nD) (t : Fin cfg1.N) (d) : (expertDat V c).before 1 t d = eblk V c 1 t :=
  ((expertDat V c).before_in_eq_fetched 1 rfl (fun _ => rfl) (fun _ _ _ => rfl)
    (fun t => by rw [expert_after1]; unfold Dat.blockOf eblk; rw [expertDat_A]) t d).trans
    (by unfold Dat.fetched Dat.blockOf eblk; rw [expertDat_A]; rfl)
/-- The weights' buffer holds its block when the body runs. -/
theorem expert_before2 (c : Dev nD) (t : Fin cfg1.N) (d) : (expertDat V c).before 2 t d = eblk V c 2 t :=
  ((expertDat V c).before_in_eq_fetched 2 rfl (fun _ => rfl) (fun _ _ _ => rfl)
    (fun t => by rw [expert_after2]; unfold Dat.blockOf eblk; rw [expertDat_A]) t d).trans
    (by unfold Dat.fetched Dat.blockOf eblk; rw [expertDat_A]; rfl)

/-! ## The body obligation -/

/-- What the body is called with at point `t`, window by window. -/
def expertPre (c : Dev nD) (t : Fin cfg1.N) : sProp 𝕄 :=
  iprop((expertDat V c).Φ t.castSucc ∗ (expertDat V c).owesAt () t.castSucc
    ∗ (∃ d, owns (c : Thread nD τ) (st1_0 t) fullShare ((expertDat V c).before 0 t d))
    ∗ (∃ d, owns (c : Thread nD τ) (st1_1 t) fullShare ((expertDat V c).before 1 t d))
    ∗ (∃ d, owns (c : Thread nD τ) (st1_2 t) fullShare ((expertDat V c).before 2 t d))
    ∗ (∃ d, owns (c : Thread nD τ) (st1_3 t) fullShare ((expertDat V c).before 3 t d)))

/-- What it returns. -/
def expertPost (c : Dev nD) (t : Fin cfg1.N) : sProp 𝕄 :=
  iprop((expertDat V c).Φ t.succ ∗ (expertDat V c).owesAt () t.succ
    ∗ owns (c : Thread nD τ) (st1_0 t) fullShare ((expertDat V c).after 0 t)
    ∗ owns (c : Thread nD τ) (st1_1 t) fullShare ((expertDat V c).after 1 t)
    ∗ owns (c : Thread nD τ) (st1_2 t) fullShare ((expertDat V c).after 2 t)
    ∗ (expertDat V c).leavesExact 3 t)

/-- The invariant after a point, spelled out. -/
theorem expertPhi_succ (c : Dev nD) (t : Fin cfg1.N) : (expertDat V c).Φ t.succ
    = iprop(routerStages (F := F) c
      ∗ owns (c : Thread nD τ) sumScratch fullShare (k1_pay2 (k1_pay7 (eblk V c 0 t) (eblk V c 2 t)) (eblk V c 1 t) (expertAcc V c t.val).1)
      ∗ owns (c : Thread nD τ) countScratch fullShare (k1_pay3 (eblk V c 1 t) (expertAcc V c t.val).2)) := by
  rw [show (expertDat V c).Φ t.succ = expertPhi V c (t.val + 1) from rfl, expertPhi, if_neg (Nat.succ_ne_zero _), expertAcc_succ]

/-- The invariant before a point. -/
theorem expertPhi_cast (c : Dev nD) (t : Fin cfg1.N) : (expertDat V c).Φ t.castSucc = expertPhi V c t.val := rfl

set_option maxHeartbeats 1000000 in
/-- The body at any point takes the one to the other. -/
theorem expert_point (c : Dev nD) (t : Fin cfg1.N) :
    expertPre V c t ⊢ wp frame (wpE (defs₀ (F := F)) Variants.none c none) Set.univ (bodyAt1 t) (fun _ => expertPost V c t) := by
  unfold expertPre expertPost bodyAt1
  simp only [expert_before0, expert_before1, expert_before2]
  rw [expertPhi_succ, expertPhi_cast,
    show (expertDat V c).owesAt () t.succ = (expertDat V c).owesAt () t.castSucc from rfl,
    expert_after0, expert_after1, expert_after2]
  have hN : t.val < 8 := lt_of_lt_of_eq t.isLt N_1
  by_cases hl : atLast (grid1.coords t)
  · have hv := (atLast_iff t).mp hl
    have hf : ¬atFirst (grid1.coords t) := fun h => by have := (atFirst_iff t).mp h; omega
    rw [show (expertDat V c).leavesExact 3 t = owns (c : Thread nD τ) (st1_3 t) fullShare ((expertDat V c).after 3 t) from by
      unfold Dat.leavesExact; rw [loss_live t hl], expert_after3, expertAcc_succ]
    rw [expertPhi, if_neg (by omega : ¬t.val = 0)]
    iintro ⟨⟨HR, HS0, HS1⟩, Ho, ⟨%d0, H0⟩, ⟨%d1, H1⟩, ⟨%d2, H2⟩, ⟨%d3, H3⟩⟩
    iapply (expert_last c Set.univ (grid1.coords t) _ _ _ _ _ _ _ _ _ _ _ _ (eblk V c 0 t) (eblk V c 1 t) (eblk V c 2 t) hf hl _ _ _)
    isplitl [H0]; · iexact H0
    isplitl [H1]; · iexact H1
    isplitl [H2]; · iexact H2
    isplitl [H3]; · iexists _; iexact H3
    isplitl [HS0]; · iexact HS0
    isplitl [HS1]; · iexact HS1
    iintro ⟨H0, H1, H2, H3, HS0, HS1⟩
    isplitl [HR HS0 HS1]
    · isplitl [HR]; · iexact HR
      isplitl [HS0]; · iexact HS0
      iexact HS1
    isplitl [Ho]; · iexact Ho
    isplitl [H0]; · iexact H0
    isplitl [H1]; · iexact H1
    isplitl [H2]; · iexact H2
    iexact H3
  · rw [Dat.leavesExact_idle (expertDat V c) 3 t (loss_idle t hl) (loss_noFlush t hl)]
    by_cases hz : t.val = 0
    · have hf : atFirst (grid1.coords t) := (atFirst_iff t).mpr (by omega)
      rw [expertPhi, if_pos hz, hz, expertAcc]
      iintro ⟨HΦ, Ho, ⟨%d0, H0⟩, ⟨%d1, H1⟩, ⟨%d2, H2⟩, ⟨%d3, H3⟩⟩
      ihave HΦ' := (scopedRest_split c) $$ HΦ
      icases HΦ' with ⟨HR, HS0, HS1⟩
      iapply (expert_first c Set.univ (grid1.coords t) _ _ _ _ _ _ _ _ _ _ _ _ (eblk V c 0 t) (eblk V c 1 t) (eblk V c 2 t) hf hl _ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HR HS0 HS1]
      · isplitl [HR]; · iexact HR
        isplitl [HS0]; · iexact HS0
        iexact HS1
      isplitl [Ho]; · iexact Ho
      isplitl [H0]; · iexact H0
      isplitl [H1]; · iexact H1
      isplitl [H2]; · iexact H2
      iexists _; iexact H3
    · have hf : ¬atFirst (grid1.coords t) := fun h => by have := (atFirst_iff t).mp h; omega
      rw [expertPhi, if_neg hz]
      iintro ⟨⟨HR, HS0, HS1⟩, Ho, ⟨%d0, H0⟩, ⟨%d1, H1⟩, ⟨%d2, H2⟩, ⟨%d3, H3⟩⟩
      iapply (expert_mid c Set.univ (grid1.coords t) _ _ _ _ _ _ _ _ _ _ _ _ (eblk V c 0 t) (eblk V c 1 t) (eblk V c 2 t) hf hl _ _ _ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HR HS0 HS1]
      · isplitl [HR]; · iexact HR
        isplitl [HS0]; · iexact HS0
        iexact HS1
      isplitl [Ho]; · iexact Ho
      isplitl [H0]; · iexact H0
      isplitl [H1]; · iexact H1
      isplitl [H2]; · iexact H2
      iexists _; iexact H3

/-- The launch's obligation for the expert body. -/
theorem expert_obligation (c : Dev nD) : BodyObligation (expertDat V c) (defs₀ (F := F)) Variants.none () Set.univ := fun t => by
  rw [bigSep_W1, bigSep_W1,
    show defs₀ (F := F) .tc cfg1.body (cfg1.bodyArgs t (cfg1.slots t)) = bodyAt1 t from by unfold defs₀; rw [Defs.onTc_tc]]
  exact triple_restated (expert_point V c t) rfl .rfl fun _ => .rfl

/-- What the launch hands the region is the invariant before the first point. -/
theorem expert_in (c : Dev nD) : (Pipeline.scopedRest spec1 c : sProp 𝕄) ⊢ (expertDat V c).Φ 0 := by
  rw [show (expertDat V c).Φ 0 = expertPhi V c 0 from rfl, expertPhi, if_pos rfl]

/-- The invariant after the last point gives it back. -/
theorem expert_out (c : Dev nD) : (expertDat V c).Φ (Fin.last cfg1.N) ⊢ (Pipeline.scopedRest spec1 c : sProp 𝕄) := by
  rw [show (expertDat V c).Φ (Fin.last cfg1.N) = expertPhi V c cfg1.N from rfl, expertPhi, if_neg (by rw [show cfg1.N = 8 from N_1]; decide)]
  refine BIBase.Entails.trans ?_ (scopedRest_join c)
  iintro ⟨HR, HS0, HS1⟩
  isplitl [HR]; · iexact HR
  isplitl [HS0]; · iexists _; iexact HS0
  iexists _; iexact HS1

end Cert.Moe

end
-- ==== Proof.KernelRun.lean ====
/-
  The whole kernel run: host lines, the router call, the expert call, host lines.

  `W1` … `W4` are a core's buffers after each of the four stretches, from the contents `m` the run starts with: each
  call changes its output arrays only, to what its pipeline leaves there. `kernel_run`: every weakly fair execution
  terminates with every unscoped buffer at `W4` and every semaphore at zero. Everything here holds for any float
  values `F`.
-/
module

public import proofs.«01_k».proof.Proof.ExpertRegion
public import proofs.«01_k».proof.Proof.Gen.KernelIdeal.Regions
public import Idealize.ShloMosaic.Lib.Pipeline.RegionArraysS

@[expose] public section

set_option maxRecDepth 16384

noncomputable section

namespace Cert.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg HostSeg Seg)

variable {F : FTy → Type} [FloatOps F]

local notation "𝕄" => MT nD τ sig Unit (Elt F) ℕ (UR sig nD τ) ℕ

variable (m : (ℓ : Loc nD τ sig) → Buf (Elt F) ℓ)

/-! ## The buffers after each stretch -/

/-- At the launch. -/
def W0 (c : Dev nD) : Valuation τ sig (Elt F) := fun b => m (c, b)
/-- After the host lines before the calls. -/
def W1 (c : Dev nD) : Valuation τ sig (Elt F) := StableHlo.after hostOps0 (W0 m c)
/-- After the router call. -/
def W2 (c : Dev nD) : Valuation τ sig (Elt F) := Pipeline.afterRegion (routerDat (W1 m) c) (W1 m c)
/-- After the expert call. -/
def W3 (c : Dev nD) : Valuation τ sig (Elt F) := Pipeline.afterRegion (expertDat (W2 m) c) (W2 m c)
/-- After the host lines that follow. -/
def W4 (c : Dev nD) : Valuation τ sig (Elt F) := StableHlo.after hostOps2 (W3 m c)

/-- The two calls' proof data. -/
def pdats : (p : Fin 2) → (c : Dev nD) → Dat τ (Elt F) Unit ℕ (UR sig nD τ) ℕ (cfgs p) c
  | 0 => routerDat (W1 m)
  | 1 => expertDat (W2 m)

/-- Levels: every TensorCore cell has the one round, at level zero. -/
def lvls (g : GSem nD τ sig) : Finset Unit := if g.1.2 = .tc then {()} else ∅

/-- The router's arrays start at the contents the host lines left. -/
theorem router_arr_start (c : Dev nD) (w : Fin cfg0.W) : (routerDat (W1 m) c).arrAt w 0 = W1 m c (Proc.devRef .tc (Pipeline.arrRef spec0 w)) :=
  routerDat_A (W1 m) c w
/-- The expert call's arrays start at the contents the router call left. -/
theorem expert_arr_start (c : Dev nD) (w : Fin cfg1.W) : (expertDat (W2 m) c).arrAt w 0 = W2 m c (Proc.devRef .tc (Pipeline.arrRef spec1 w)) :=
  expertDat_A (W2 m) c w

/-- Each pipeline keeps its semaphores below the level the run is cut at. -/
theorem cut (p : Fin 2) : Pipeline.LevelCut (Ix := Unit) (Lvl := ℕ) (nD := nD) (τ := τ) (pcfgs (F := F)) adm () lvls (fun _ _ => 0) p
    (fun _ => 0) (fun _ => 0) where
  hι c w s := by unfold lvls; rw [if_pos rfl]; exact Finset.mem_singleton_self _
  hιb c w s := le_refl _
  hD c g i h := absurd h (lt_irrefl 0)

set_option backward.isDefEq.respectTransparency.types false in
/-- The router call as a segment of @main. -/
def routerSeg : RegionSeg (pcfgs (F := F)) adm (pdats m) () defs₀ Variants.none lvls (fun _ _ => 0) 0 :=
  RegionSeg.ofHeldIn (pcfgs (F := F)) adm (pdats m) () defs₀ Variants.none lvls (fun _ _ => 0) 0 (fun _ => 0)
    (Pipeline.ucRefs τ sig) (fun _ => iprop(emp)) (fun _ => iprop(emp)) launch0.toP rfl
    (fun c => (router_obligation (W1 m) c).loose) (fun _ _ => rfl) (fun _ => rfl)
    (fun c w => (routerDat (W1 m) c).share_full (fun _ => rfl) w)
    (fun c => show iprop(Pipeline.scopedRest spec0 c ∗ emp) ⊢ (Pipeline.scopedRest spec0 c : sProp 𝕄) from by
      iintro ⟨H, -⟩; iexact H)
    (fun c => show (Pipeline.scopedRest spec0 c : sProp 𝕄) ⊢ iprop(Pipeline.scopedRest spec0 c ∗ emp) from by
      iintro H; isplitl [H]; · iexact H
      iempintro)
    (fun _ => 0) (cut 0) (fun _ => iprop(emp)) (W1 m) (router_arr_start m)

set_option backward.isDefEq.respectTransparency.types false in
/-- The expert call as a segment of @main. -/
def expertSeg : RegionSeg (pcfgs (F := F)) adm (pdats m) () defs₀ Variants.none lvls (fun _ _ => 0) 1 :=
  RegionSeg.ofHeldIn (pcfgs (F := F)) adm (pdats m) () defs₀ Variants.none lvls (fun _ _ => 0) 1 (fun _ => 0)
    (Pipeline.ucRefs τ sig) (fun _ => iprop(emp)) (fun _ => iprop(emp)) launch1.toP rfl
    (fun c => (expert_obligation (W2 m) c).loose) (fun _ _ => rfl) (fun _ => rfl)
    (fun c w => (expertDat (W2 m) c).share_full (fun _ => rfl) w)
    (fun c => show iprop(Pipeline.scopedRest spec1 c ∗ emp) ⊢ (expertDat (W2 m) c).Φ 0 from by
      iintro ⟨H, -⟩; iapply (expert_in (W2 m) c); iexact H)
    (fun c => show (expertDat (W2 m) c).Φ (Fin.last cfg1.N) ⊢ iprop(Pipeline.scopedRest spec1 c ∗ emp) from by
      iintro H; isplitl [H]; · iapply (expert_out (W2 m) c); iexact H
      iempintro)
    (fun _ => 0) (cut 1) (fun _ => iprop(emp)) (W2 m) (expert_arr_start m)

/-- What rides along beside the buffers: the core owes nothing. -/
def rest (c : Dev nD) : sProp 𝕄 := iprop((∃ Wd, owes (c : Thread nD τ) (0 : CellTallies nD τ sig Unit) Wd) ∗ emp ∗ emp)

/-- The host lines before the calls. -/
def headSeg : HostSeg (Ix := Unit) (Name := ℕ) (U := UR sig nD τ) (Lvl := ℕ) (pcfgs (F := F)) defs₀ Variants.none lvls (fun _ _ => 0) :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) rest

/-- The host lines after the calls. -/
def tailSeg : HostSeg (Ix := Unit) (Name := ℕ) (U := UR sig nD τ) (Lvl := ℕ) (pcfgs (F := F)) defs₀ Variants.none lvls (fun _ _ => 0) :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W3 m) rest

/-- @main as its four stretches. -/
def mainSegs (c : Dev nD) : List (Seg (pcfgs (F := F)) adm (pdats m) () defs₀ Variants.none lvls (fun _ _ => 0)) :=
  [.host (headSeg m), .region (routerSeg m), .region (expertSeg m), .host (tailSeg m)]

/-- The router's arrays are unscoped buffers. -/
theorem arrRefs0_sub : Pipeline.arrRefs (τ := τ) (pcfgs (F := F) 0).spec ⊆ Pipeline.ucRefs τ sig :=
  Pipeline.arrRefs_sub_ucRefs spec0 (by decide)
/-- The expert call's arrays are unscoped buffers. -/
theorem arrRefs1_sub : Pipeline.arrRefs (τ := τ) (pcfgs (F := F) 1).spec ⊆ Pipeline.ucRefs τ sig :=
  Pipeline.arrRefs_sub_ucRefs spec1 (by decide)

/-- The state between the head and the router call, and so on down the chain. -/
theorem router_entry (c : Dev nD) : iprop(StableHlo.held (c : Thread nD τ) (Pipeline.ucRefs τ sig) (W1 m c) ∗ rest c) ⊢ (routerSeg m).pre c := by
  unfold routerSeg rest
  refine BIBase.Entails.trans ?_ (RegionSeg.ofHeldIn_pre (S := Pipeline.ucRefs τ sig) (arrRefs0_sub (F := F)) c)
  exact .rfl
/-- The state between the calls, as the router call leaves it, -/
theorem router_exit (c : Dev nD) : (routerSeg m).post c ⊢ iprop(StableHlo.held (c : Thread nD τ) (Pipeline.ucRefs τ sig) (W2 m c) ∗ rest c) :=
  RegionSeg.ofHeldIn_post (arrRefs0_sub (F := F)) c
/-- and as the expert call takes it. -/
theorem expert_entry (c : Dev nD) : iprop(StableHlo.held (c : Thread nD τ) (Pipeline.ucRefs τ sig) (W2 m c) ∗ rest c) ⊢ (expertSeg m).pre c := by
  unfold expertSeg rest
  refine BIBase.Entails.trans ?_ (RegionSeg.ofHeldIn_pre (S := Pipeline.ucRefs τ sig) (arrRefs1_sub (F := F)) c)
  exact .rfl
/-- The state the expert call leaves to the last host lines. -/
theorem expert_exit (c : Dev nD) : (expertSeg m).post c ⊢ iprop(StableHlo.held (c : Thread nD τ) (Pipeline.ucRefs τ sig) (W3 m c) ∗ rest c) :=
  RegionSeg.ofHeldIn_post (arrRefs1_sub (F := F)) c

set_option backward.isDefEq.respectTransparency.types false in
/-- THE RUN: from any contents `m` with every semaphore at zero, every weakly fair execution of the kernel terminates
    with every unscoped buffer at `W4 m` and every semaphore at zero. -/
theorem kernel_run (ρ : Dev nD → PrngReg) :
    θ_run defs (onTc (τ := τ) (main (F := F))) ⟨m, fun _ => 0, ρ⟩ (fun r =>
      (∀ c : Dev nD, ∀ b ∈ Pipeline.ucRefs τ sig, r.2.mem (c, b) = W4 m c b) ∧ r.2.sem = fun _ => 0) := by
  refine Pipeline.θ_run_regions_kit_dev_sems (pcfgs (F := F)) adm (pdats m) () cellOf_inj emb₁ defs₀ Variants.none lvls (fun _ _ => 0) m ρ main
    (mainSegs m)
    (fun c Q => by
      rewrite [main_chain c, Seg.run_eq_chain,
        show (mainSegs m c).map Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (fun c => by simp only [mainSegs, Seg.pipes_host, Seg.pipes_region, Seg.pipes_nil]; decide) (fun _ => 0)
    (fun g h => if_neg h) (fun _ => iprop(emp))
    (initOf (Pipeline.cells cfgs cellOf_inj) (Pipeline.launchToks cfgs cellOf_inj)) ?hu
    (T₀ := fun c => iprop(StableHlo.held (c : Thread nD τ) (Pipeline.ucRefs τ sig) (W0 m c) ∗ rest c))
    (Tₙ := fun c => StableHlo.held (c : Thread nD τ) (Pipeline.ucRefs τ sig) (W4 m c))
    (hch := fun c => ⟨.rfl, router_entry m c, (router_exit m c).trans (expert_entry m c), expert_exit m c,
      sep_mono .rfl (show (rest c : sProp 𝕄) ⊢ _ from by unfold rest; iintro ⟨H, -, -⟩; iexact H)⟩)
    (hinit := ?hinit)
    (QY := fun c s => ∀ b ∈ Pipeline.ucRefs τ sig, s.mem (c, b) = W4 m c b)
    (hfin := fun c s' => ?hfin) (hQ := fun _ h hz => ⟨h, funext fun g => hz g (.inr (regions_no_unscoped g.2))⟩)
  case hu =>
    iintro Hu; imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  case hinit =>
    refine Pipeline.initEach _ _ fun c => ?_
    rw [show unscopedBufs c (fun b => m ((c.tc : Thread nD τ).loc b))
      = (StableHlo.held (c : Thread nD τ) (Pipeline.ucRefs τ sig) (W0 m c) : sProp 𝕄) from
        Pipeline.unscopedBufs_held (Ix := Unit) (Name := ℕ) (U := UR sig nD τ) (Lvl := ℕ) c (W0 m c)]
    unfold rest
    iintro ⟨⟨Hh, -, Ho, -, -, -⟩, -⟩
    imodintro
    isplitl [Hh]; · iexact Hh
    isplitl [Ho]; · iexists _; iexact Ho
    isplitr; · iempintro
    iempintro
  case hfin =>
    unfold StableHlo.held
    iintro ⟨Hh, HSI⟩
    imodintro
    iapply (pointsTo_read_all (Pipeline.ucRefs τ sig) (fun b => ((c : Thread nD τ).1, b)) (W4 m c) s')
    isplitl [Hh] <;> iassumption

end Cert.Moe

end
-- ==== Proof.KernelBuffers.lean ====
/-
  What the kernel's buffers hold stage by stage: which ones each stage leaves alone, what the host lines write, and which
  array of which call each result is read from. With it the frame of the kernel: it terminates, its arguments are
  unchanged and its semaphores are back at zero.
-/
module

public import proofs.«01_k».proof.Proof.KernelRun
public import proofs.«01_k».proof.Proof.Gen.KernelIdeal.Regions

@[expose] public section

set_option maxRecDepth 16384

noncomputable section

namespace Cert.Moe

open Cert.KernelIdeal Cert.KernelIdeal.Gen
open Idealize.ShloMosaic Idealize.ShloMosaic.TcCoe Idealize.SL.Sem Idealize.ShloMosaic.Tactic
open Idealize.ShloMosaic.Pipeline (Dat)

variable {F : FTy → Type} [FloatOps F]
variable (m : (ℓ : Loc nD τ sig) → Buf (Elt F) ℓ) (c : Dev nD)

/-! ## What each stage leaves alone -/

/-- The first host lines write only their own four values. -/
theorem W1_keeps (r : Ref sig .tc) (h : r ∉ [main_v0, main_v1, main_v2, main_v3]) :
    W1 m c (Proc.devRef .tc r) = W0 m c (Proc.devRef .tc r) :=
  StableHlo.after_of_writes_sub hostOps0 _ hostOps0_writes h

/-- The router call writes only its three output arrays. -/
theorem W2_keeps (r : Ref sig .tc) (h : ∀ w, Pipeline.arrRef cfg0.spec w = r → (cfg0.win w).isOut = false) :
    W2 m c (Proc.devRef .tc r) = W1 m c (Proc.devRef .tc r) :=
  Pipeline.afterRegion_keeps _ _ launch0.win.arr_inj (fun w => routerDat_A (W1 m) c w) r h

/-- The expert call writes only its one output array. -/
theorem W3_keeps (r : Ref sig .tc) (h : ∀ w, Pipeline.arrRef cfg1.spec w = r → (cfg1.win w).isOut = false) :
    W3 m c (Proc.devRef .tc r) = W2 m c (Proc.devRef .tc r) :=
  Pipeline.afterRegion_keeps _ _ launch1.win.arr_inj (fun w => expertDat_A (W2 m) c w) r h

/-- The last host lines write only the results. -/
theorem W4_keeps (r : Ref sig .tc) (h : r ∉ [main_v6, main_v7, main_v8, main_v9, main_v10]) :
    W4 m c (Proc.devRef .tc r) = W3 m c (Proc.devRef .tc r) :=
  StableHlo.after_of_writes_sub hostOps2 _ hostOps2_writes h

/-! ## The arguments -/

/-- A buffer that no stage writes ends as it started. -/
theorem W4_untouched (r : Ref sig .tc) (h0 : r ∉ [main_v0, main_v1, main_v2, main_v3])
    (h1 : ∀ w, Pipeline.arrRef cfg0.spec w = r → (cfg0.win w).isOut = false)
    (h2 : ∀ w, Pipeline.arrRef cfg1.spec w = r → (cfg1.win w).isOut = false)
    (h3 : r ∉ [main_v6, main_v7, main_v8, main_v9, main_v10]) : W4 m c (Proc.devRef .tc r) = m ((c : Thread nD τ).loc r) :=
  ((W4_keeps m c r h3).trans (W3_keeps m c r h2)).trans ((W2_keeps m c r h1).trans (W1_keeps m c r h0))

/-- The gate's features are untouched; -/
theorem W4_arg0 : W4 m c main_arg0 = m ((c : Thread nD τ).loc main_arg0) :=
  W4_untouched m c main_arg0 (by decide) (by decide) (by decide) (by decide)
/-- the tokens' features, -/
theorem W4_arg1 : W4 m c main_arg1 = m ((c : Thread nD τ).loc main_arg1) :=
  W4_untouched m c main_arg1 (by decide) (by decide) (by decide) (by decide)
/-- the gate's weights, -/
theorem W4_arg2 : W4 m c main_arg2 = m ((c : Thread nD τ).loc main_arg2) :=
  W4_untouched m c main_arg2 (by decide) (by decide) (by decide) (by decide)
/-- its bias -/
theorem W4_arg3 : W4 m c main_arg3 = m ((c : Thread nD τ).loc main_arg3) :=
  W4_untouched m c main_arg3 (by decide) (by decide) (by decide) (by decide)
/-- and the experts' weights too. -/
theorem W4_arg4 : W4 m c main_arg4 = m ((c : Thread nD τ).loc main_arg4) :=
  W4_untouched m c main_arg4 (by decide) (by decide) (by decide) (by decide)

/-! ## What the host lines write -/

/-- The experts' weights, side by side. -/
theorem W1_weights : W1 m c main_v2
    = truncf .bf16 (shapeCast S1024x512 (transpose S1024x8x64 [1, 0, 2] (m ((c : Thread nD τ).loc main_arg4) : FVec F S8x1024x64 .f32)
        transposes_S8x1024x64_S1024x8x64_1_0_2) shapeCasts_S1024x8x64_S1024x512) bitsLt_bf16_f32 := by
  unfold W1
  after_results_simp
  rfl

/-- The gate's bias as a row. -/
theorem W1_bias : W1 m c main_v3
    = shapeCast S1x8 (m ((c : Thread nD τ).loc main_arg3) : FVec F S8 .f32) shapeCasts_S8_S1x8 := by
  unfold W1
  after_results_simp
  rfl

/-- The five results, each from the array it is read off. -/
theorem W4_loss : W4 m c main_v7 = shapeCast S_ (W3 m c main_v5 : FVec F S1x1 .f32) shapeCasts_S1x1_S_ := by
  unfold W4
  after_results_simp
  rfl
/-- The assignments, from the row of choices. -/
theorem W4_assign : W4 m c main_v6 = shapeCast S16384 (W3 m c main_v4_1 : IVec S1x16384 32) shapeCasts_S1x16384_S16384 := by
  unfold W4
  after_results_simp
  rfl
/-- The probabilities, transposed. -/
theorem W4_probs : W4 m c main_v8
    = transpose S16384x8 [1, 0] (W3 m c main_v4_0 : FVec F S8x16384 .f32) transposes_S8x16384_S16384x8_1_0 := by
  unfold W4
  after_results_simp
/-- The choices as a column. -/
theorem W4_topIdx : W4 m c main_v9
    = shapeCast S16384x1 (shapeCast S16384 (W3 m c main_v4_1 : IVec S1x16384 32) shapeCasts_S1x16384_S16384) shapeCasts_S16384_S16384x1 := by
  unfold W4
  after_results_simp
  rfl
/-- The chosen probabilities as a column. -/
theorem W4_topProbs : W4 m c main_v10
    = shapeCast S16384x1 (W3 m c main_v4_2 : FVec F S1x16384 .f32) shapeCasts_S1x16384_S16384x1 := by
  unfold W4
  after_results_simp
  rfl

/-! ## The calls' arrays -/

/-- After the router call: the probabilities' array, -/
theorem W2_probs : W2 m c main_v4_0 = (routerDat (W1 m) c).arrAt 3 cfg0.N :=
  Pipeline.afterRegion_arr _ _ launch0.win.arr_inj 3
/-- the choices' array -/
theorem W2_pick : W2 m c main_v4_1 = (routerDat (W1 m) c).arrAt 4 cfg0.N :=
  Pipeline.afterRegion_arr _ _ launch0.win.arr_inj 4
/-- and the chosen probabilities' array. -/
theorem W2_top : W2 m c main_v4_2 = (routerDat (W1 m) c).arrAt 5 cfg0.N :=
  Pipeline.afterRegion_arr _ _ launch0.win.arr_inj 5
/-- After the expert call: the loss's array. -/
theorem W3_loss : W3 m c main_v5 = (expertDat (W2 m) c).arrAt 3 cfg1.N :=
  Pipeline.afterRegion_arr _ _ launch1.win.arr_inj 3

/-! ## The frame -/

/-- The kernel from zeroed semaphores: it terminates with its arguments unchanged and its semaphores at zero. -/
theorem kernel_frame (ρ : Dev nD → PrngReg) :
    θ_run defs (onTc (τ := τ) (main (F := F))) ⟨m, fun _ => 0, ρ⟩ (fun r =>
      (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)) ∧ r.2.sem = fun _ => 0) :=
  (θ_run defs _ _).mono (fun _ h => ⟨fun c =>
    have at_ (k : Ref sig .tc) (hk : _) := h.1 c (Proc.devRef .tc k) (Finset.mem_filter.mpr ⟨StableHlo.devRef_mem_tcRefs k, hk⟩)
    ⟨(at_ main_arg0 (by decide)).trans (W4_arg0 m c), (at_ main_arg1 (by decide)).trans (W4_arg1 m c),
     (at_ main_arg2 (by decide)).trans (W4_arg2 m c), (at_ main_arg3 (by decide)).trans (W4_arg3 m c),
     (at_ main_arg4 (by decide)).trans (W4_arg4 m c)⟩, h.2⟩) (kernel_run m ρ)

end Cert.Moe

end
-- ==== Proof.KernelFrame.lean ====
/-
  The frame of the kernel as it stands. It and its idealization are one program, no operation having been replaced: the
  bodies, the entry points and @main agree, so the frame of the one is the frame of the other.
-/
module

public import proofs.«01_k».proof.Defs
public import proofs.«01_k».proof.Proof.KernelBuffers
public import proofs.«01_k».proof.Proof.Gen.Kernel

@[expose] public section

set_option maxRecDepth 100000

noncomputable section

namespace Cert.Moe

open Idealize.ShloMosaic Idealize.ShloMosaic.TcCoe Idealize.SL.Sem

variable {F : FTy → Type} [FloatOps F]

attribute [local instance] Cert.Kernel.Gen.facts Cert.KernelIdeal.Gen.facts

/-- The two bodies are the idealization's. -/
theorem bodies_same : @Cert.Kernel.defs₀ F _ _ = @Cert.KernelIdeal.defs₀ F _ _ := by
  unfold Cert.Kernel.defs₀ Cert.KernelIdeal.defs₀
  refine congrArg (Defs.onTc) ?_
  funext l a
  match l, a with
  | 0, (t, s) => rfl
  | 1, (t, s) => rfl

/-- So are the entry points around them, -/
theorem defs_same : @Cert.Kernel.defs F _ _ = @Cert.KernelIdeal.defs F _ _ :=
  congrArg (Idealize.ShloMosaic.Pipeline.defs (Cert.KernelIdeal.pcfgs (F := F))) bodies_same

/-- and @main. -/
theorem main_same : @Cert.Kernel.main F _ _ = @Cert.KernelIdeal.main F _ _ := by
  with_unfolding_all rfl

/-- The kernel terminates with its arguments unchanged and its semaphores at zero. -/
theorem kernel_frame_as_is : Cert.quiescent_Kernel := by
  intro m ρ _
  rw [defs_same, main_same]
  exact kernel_frame m ρ

end Cert.Moe

end
-- ==== Proof.RowMath.lean ====
/-
  One token's routing, over the extended reals: from its eight logits, the probabilities, the chosen expert and that
  expert's probability.

  `rowProb`, `rowPick` and `rowInv` are what the kernel computes: it multiplies by the reciprocal of the sum of
  exponentials, takes the first expert whose logit IS the largest, and reports the reciprocal itself as that expert's
  probability. The reference divides, and takes the front of a stable sort of the probabilities. For logits that are real
  numbers these agree: `div_eq_rowProb`, `rowPick_first`.
-/
module

public import Idealize.ShloMosaic.Lib.Pointwise
public import Idealize.ShloMosaic.PureOps.Ideal.Laws
public import Idealize.ShloMosaic.Lib.SortFacts

@[expose] public section

noncomputable section

namespace Cert.Moe

open Idealize.ShloMosaic

/-! ## The kernel's spelling -/

/-- The largest of eight logits. -/
def rowMax (l : Fin 8 → EReal) : EReal := Finset.univ.fold max ⊥ l
/-- The exponential of a logit less the largest. -/
def rowExp (l : Fin 8 → EReal) (e : Fin 8) : EReal := Ideal.exp (l e - rowMax l)
/-- The reciprocal of the sum of the exponentials. -/
def rowInv (l : Fin 8 → EReal) : EReal := Ideal.div 1 (∑ e, rowExp l e)
/-- The probability of an expert. -/
def rowProb (l : Fin 8 → EReal) (e : Fin 8) : EReal := rowExp l e * rowInv l
/-- The smallest number of an expert whose logit is the largest, as a word. -/
def rowPick (l : Fin 8 → EReal) : BitVec 32 :=
  Finset.univ.fold IntOp.minsi 2147483647#32 fun e : Fin 8 => if l e = rowMax l then BitVec.ofNat 32 e.val else 8#32

/-! ## Real logits -/

/-- A sum of reals is the same sum in the extended reals. -/
theorem coe_sum_real {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Among real logits the largest is one of them. -/
theorem rowMax_real (f : Fin 8 → ℝ) : ∃ q, rowMax (fun e => (f e : EReal)) = (f q : EReal) ∧ ∀ e, f e ≤ f q := by
  obtain ⟨q, -, hq⟩ := Finset.exists_mem_eq_sup (Finset.univ : Finset (Fin 8)) ⟨0, Finset.mem_univ 0⟩ fun e => (f e : EReal)
  refine ⟨q, hq, fun e => ?_⟩
  have h : (f e : EReal) ≤ Finset.univ.sup fun e => (f e : EReal) := Finset.le_sup (f := fun e => (f e : EReal)) (Finset.mem_univ e)
  rw [hq] at h
  exact EReal.coe_le_coe_iff.mp h

/-- The exponential of a real logit less the largest is the real one. -/
theorem rowExp_real (f : Fin 8 → ℝ) (q : Fin 8) (hq : rowMax (fun e => (f e : EReal)) = (f q : EReal)) (e : Fin 8) :
    rowExp (fun e => (f e : EReal)) e = ((Real.exp (f e - f q) : ℝ) : EReal) := by
  unfold rowExp
  rw [hq, ← EReal.coe_sub, Ideal.exp_coe]

/-- Dividing by a nonzero real is multiplying by the reciprocal of one. -/
theorem div_eq_mul_div_one (x : EReal) {z : ℝ} (hz : z ≠ 0) : Ideal.div x (z : EReal) = x * Ideal.div 1 (z : EReal) := by
  rw [Ideal.div_coe hz, Ideal.div_coe hz, one_mul]

/-- The reference's quotient is the kernel's product with the reciprocal. -/
theorem div_eq_rowProb (l : Fin 8 → EReal) (hl : ∀ e, ∃ x : ℝ, l e = x) (e : Fin 8) :
    Ideal.div (rowExp l e) (∑ e', rowExp l e') = rowProb l e := by
  choose f hf using hl
  obtain rfl : l = fun e => (f e : EReal) := funext hf
  obtain ⟨q, hq, -⟩ := rowMax_real f
  unfold rowProb rowInv
  simp only [rowExp_real f q hq, ← coe_sum_real]
  exact div_eq_mul_div_one _ (ne_of_gt (Finset.sum_pos (fun _ _ => Real.exp_pos _) ⟨0, Finset.mem_univ 0⟩))

/-! ## The chosen expert -/

/-- The smallest marked number: a running minimum of the numbers where marked, of 8 elsewhere. -/
theorem fold_minsi_first : ∀ (c : Fin 8 → Bool) (p : Fin 8), c p = true → (∀ k, k < p → c k = false) →
    (Finset.univ.fold IntOp.minsi 2147483647#32 fun e : Fin 8 => if c e = true then BitVec.ofNat 32 e.val else 8#32)
      = BitVec.ofNat 32 p.val := by
  decide +kernel

/-- The chosen expert is the first whose probability is the largest, and its probability is the reciprocal. -/
theorem rowPick_first (l : Fin 8 → EReal) (hl : ∀ e, ∃ x : ℝ, l e = x) :
    ∃ p : Fin 8, rowPick l = BitVec.ofNat 32 p.val ∧ rowProb l p = rowInv l
      ∧ (∀ k, rowProb l k ≤ rowProb l p) ∧ ∀ k, k < p → rowProb l k < rowProb l p := by
  choose f hf using hl
  obtain rfl : l = fun e => (f e : EReal) := funext hf
  obtain ⟨q, hq, hmax⟩ := rowMax_real f
  have hne : (Finset.univ.filter fun e => f e = f q).Nonempty := ⟨q, by simp⟩
  obtain ⟨p, hp, hfirst⟩ : ∃ p, f p = f q ∧ ∀ k, k < p → f k ≠ f q :=
    ⟨_, (Finset.mem_filter.mp (Finset.min'_mem _ hne)).2, fun k hk h =>
      absurd (Finset.min'_le _ k (Finset.mem_filter.mpr ⟨Finset.mem_univ k, h⟩)) (not_le.mpr hk)⟩
  have hz : (0 : ℝ) < ∑ e, Real.exp (f e - f q) := Finset.sum_pos (fun _ _ => Real.exp_pos _) ⟨0, Finset.mem_univ 0⟩
  have hinv : rowInv (fun e => (f e : EReal)) = ((1 / ∑ e, Real.exp (f e - f q) : ℝ) : EReal) := by
    unfold rowInv
    simp only [rowExp_real f q hq, ← coe_sum_real]
    rw [Ideal.div_coe hz.ne', one_mul]
  have hprob : ∀ e, rowProb (fun e => (f e : EReal)) e
      = ((Real.exp (f e - f q) * (1 / ∑ e, Real.exp (f e - f q)) : ℝ) : EReal) := fun e => by
    unfold rowProb
    rw [hinv, rowExp_real f q hq, ← EReal.coe_mul]
  have hpos : (0 : ℝ) < 1 / ∑ e, Real.exp (f e - f q) := one_div_pos.mpr hz
  refine ⟨p, ?_, ?_, fun k => ?_, fun k hk => ?_⟩
  · unfold rowPick
    rw [hq]
    have h := fold_minsi_first (fun e => decide (f e = f q)) p (decide_eq_true hp) fun k hk => decide_eq_false (hfirst k hk)
    simpa only [decide_eq_true_eq, EReal.coe_eq_coe_iff] using h
  · rw [hprob, hinv, hp, sub_self, Real.exp_zero, one_mul]
  · rw [hprob, hprob, hp]
    exact EReal.coe_le_coe_iff.mpr (mul_le_mul_of_nonneg_right
      (Real.exp_le_exp.mpr (sub_le_sub_right (hmax k) _)) hpos.le)
  · rw [hprob, hprob, hp]
    exact EReal.coe_lt_coe_iff.mpr (mul_lt_mul_of_pos_right
      (Real.exp_lt_exp.mpr (sub_lt_sub_right (lt_of_le_of_ne (hmax k) (hfirst k hk)) _)) hpos)

/-! ## The front of a stable sort, greatest first -/

/-- The front of the stable insertion sort of an increasing list of positions, greater values first, is the first position of
    the largest value. -/
theorem stableSort_front {n : Nat} {α : Type} [LinearOrder α] (v : Fin n → α) (before : Fin n → Fin n → Bool)
    (hb : ∀ k k', before k k' = decide (v k' < v k)) : ∀ l : List (Fin n), l.Pairwise (· < ·) → l ≠ [] →
    ∃ p t, stableSort before l = p :: t ∧ p ∈ l ∧ (∀ k ∈ l, v k ≤ v p) ∧ ∀ k ∈ l, k < p → v k < v p
  | [], _, h => absurd rfl h
  | a :: l, hs, _ => by
    rw [List.pairwise_cons] at hs
    rcases l with _ | ⟨b, l⟩
    · exact ⟨a, [], rfl, by simp, by simp, by simp⟩
    · obtain ⟨p, t, hpt, hp, hmax, hfirst⟩ := stableSort_front v before hb (b :: l) hs.2 (by simp)
      have e : stableSort before (a :: b :: l) = insertBefore before a (p :: t) := congrArg (insertBefore before a) hpt
      by_cases h : v a < v p
      · refine ⟨p, insertBefore before a t, ?_, by simp [hp], ?_, ?_⟩
        · rw [e]; exact if_pos (by rw [hb]; exact decide_eq_true h)
        · intro k hk
          rcases List.mem_cons.mp hk with rfl | hk
          · exact h.le
          · exact hmax k hk
        · intro k hk hkp
          rcases List.mem_cons.mp hk with rfl | hk
          · exact h
          · exact hfirst k hk hkp
      · refine ⟨a, p :: t, ?_, by simp, ?_, ?_⟩
        · rw [e]; exact if_neg (by rw [hb]; simpa using h)
        · intro k hk
          rcases List.mem_cons.mp hk with rfl | hk
          · exact le_rfl
          · exact (hmax k hk).trans (not_lt.mp h)
        · intro k hk hka
          rcases List.mem_cons.mp hk with rfl | hk
          · exact absurd hka (lt_irrefl _)
          · exact absurd hka (not_lt.mpr (hs.1 k hk).le)

/-- Of eight values sorted stably, greater first, the front is the first position of the largest. -/
theorem sortedFrom_zero {α : Type} [LinearOrder α] (v : Fin 8 → α) (before : Fin 8 → Fin 8 → Bool)
    (hb : ∀ k k', before k k' = decide (v k' < v k)) (p : Fin 8) (hmax : ∀ k, v k ≤ v p) (hfirst : ∀ k, k < p → v k < v p) :
    sortedFrom before 0 = p := by
  obtain ⟨p', t, hpt, -, hmax', hfirst'⟩ := stableSort_front v before hb (List.finRange 8)
    (by decide) (by simp)
  have hp : p' = p := by
    rcases lt_trichotomy p' p with h | h | h
    · exact absurd (hfirst p' h) (not_lt.mpr (hmax' p (List.mem_finRange p)))
    · exact h
    · exact absurd (hfirst' p (List.mem_finRange p) h) (not_lt.mpr (hmax p'))
  have h0 : (sortPositions 8 before)[0]? = some p' := by
    unfold sortPositions
    rw [hpt]
    rfl
  unfold sortedFrom
  rw [← hp]
  rw [List.get_eq_getElem]
  exact (List.getElem?_eq_some_iff.mp h0).2

end Cert.Moe

end
-- ==== Proof.RouterValue.lean ====
/-
  What one block of the router call computes, entry by entry, over the extended reals: at each of the block's 2048 tokens
  the routing of `RowMath` of that token's eight logits.
-/
module

public import proofs.«01_k».proof.Proof.RowMath
public import proofs.«01_k».proof.Proof.Gen.KernelIdeal.Skeleton

@[expose] public section

set_option maxRecDepth 16384

noncomputable section

namespace Cert.Moe

open Cert.KernelIdeal Cert.KernelIdeal.Gen
open Idealize.ShloMosaic

/-- The word a running maximum starts from stands for `⊥`. -/
theorem ofBits_neg_inf : Ideal.ofBits .f32 0xFF800000#32 = ⊥ := by simp [Ideal.ofBits, Ideal.ieee]

/-- The eight logits of token `r` of a block: the token's features times the gate's columns, plus the bias. -/
def blockLogits (x : Vec Ideal S2048x1024 .f32) (w : Vec Ideal S1024x8 .f32) (b : Vec Ideal S1x8 .f32) (r : Fin 2048)
    (e : Fin 8) : EReal :=
  (∑ k : Fin 1024, x (ix2 r k) * w (ix2 k e)) + b (ix2 0 e)

variable (x : Vec Ideal S2048x1024 .f32) (w : Vec Ideal S1024x8 .f32) (b : Vec Ideal S1x8 .f32) (e : Fin 8) (r : Fin 2048)

/-- The logits, transposed. -/
theorem k0_pay1_apply : k0_pay1 x w b (ix2 e r) = blockLogits x w b r e := by
  pointwise [k0_pay1, blockLogits]

/-- Each token's largest logit. -/
theorem k0_pay2_apply : k0_pay2 x w b (ix2 0 r) = rowMax (blockLogits x w b r) := by
  pointwise [k0_pay2]
  simp only [ofBits_neg_inf, k0_pay1_apply]
  rfl

/-- The exponentials. -/
theorem k0_pay3_apply : k0_pay3 x w b (ix2 e r) = rowExp (blockLogits x w b r) e := by
  pointwise [k0_pay3]
  rw [k0_pay1_apply, k0_pay2_apply]
  rfl

/-- The third output: the chosen expert's probability. -/
theorem k0_pay4_apply : k0_pay4 x w b (ix2 0 r) = rowInv (blockLogits x w b r) := by
  pointwise [k0_pay4]
  simp only [k0_pay3_apply]
  rfl

/-- The second output: the chosen expert. -/
theorem k0_pay5_apply : k0_pay5 x w b (ix2 0 r) = rowPick (blockLogits x w b r) := by
  pointwise [k0_pay5]
  simp only [k0_pay1_apply, k0_pay2_apply]
  rfl

/-- The first output: the probabilities. -/
theorem k0_pay6_apply : k0_pay6 x w b (ix2 e r) = rowProb (blockLogits x w b r) e := by
  pointwise [k0_pay6]
  rw [k0_pay3_apply, k0_pay4_apply]
  rfl

end Cert.Moe

end
-- ==== Proof.RouterArrays.lean ====
/-
  The router call's three arrays after the run, entry by entry over the extended reals: token `i` lies in tile `i / 2048`
  at column `i % 2048`, and what the tile stores there is the token's routing.
-/
module

public import proofs.«01_k».proof.Proof.KernelBuffers
public import proofs.«01_k».proof.Proof.RouterValue

@[expose] public section

set_option maxRecDepth 16384

noncomputable section

namespace Cert.Moe

open Cert.KernelIdeal Cert.KernelIdeal.Gen
open Idealize.ShloMosaic Idealize.ShloMosaic.TcCoe Idealize.SL.Sem
open Idealize.ShloMosaic.Pipeline (Dat)

/-- Token `r` of tile `t`, among all the tokens. -/
def token (t : Fin 8) (r : Fin 2048) : Fin 16384 := ⟨2048 * t.val + r.val, by omega⟩

/-- Every token is a column of a tile. -/
theorem token_div_mod (i : Fin 16384) : token ⟨i.val / 2048, by omega⟩ ⟨i.val % 2048, by omega⟩ = i :=
  Fin.ext (by show 2048 * (i.val / 2048) + i.val % 2048 = i.val; omega)

/-- Token `i`'s logits, the bias given as a row. -/
def rowLogits (G : FVec Ideal S16384x1024 .f32) (Wg : FVec Ideal S1024x8 .f32) (b : FVec Ideal S1x8 .f32) (i : Fin 16384) (e : Fin 8) :
    EReal :=
  (∑ k : Fin 1024, G (ix2 i k) * Wg (ix2 k e)) + b (ix2 0 e)

/-! ## Where the windows' blocks lie -/

/-- The block numbers of the router's windows at each of the eight tiles. -/
theorem router_index (t : Fin cfg0.N) :
    ((win0_0.index t 0 = t.val ∧ win0_0.index t 1 = 0) ∧ (win0_1.index t 0 = 0 ∧ win0_1.index t 1 = 0)
      ∧ (win0_2.index t 0 = 0 ∧ win0_2.index t 1 = 0))
    ∧ (win0_3.index t 0 = 0 ∧ win0_3.index t 1 = t.val) ∧ (win0_4.index t 0 = 0 ∧ win0_4.index t 1 = t.val)
      ∧ (win0_5.index t 0 = 0 ∧ win0_5.index t 1 = t.val) :=
  (by decide +kernel : ∀ t : Fin grid0.N,
    ((win0_0.index t 0 = t.val ∧ win0_0.index t 1 = 0) ∧ (win0_1.index t 0 = 0 ∧ win0_1.index t 1 = 0)
      ∧ (win0_2.index t 0 = 0 ∧ win0_2.index t 1 = 0))
    ∧ (win0_3.index t 0 = 0 ∧ win0_3.index t 1 = t.val) ∧ (win0_4.index t 0 = 0 ∧ win0_4.index t 1 = t.val)
      ∧ (win0_5.index t 0 = 0 ∧ win0_5.index t 1 = t.val)) t

variable (V : Dev nD → Valuation τ sig (Elt Ideal)) (c : Dev nD) (t : Fin cfg0.N)

/-- A tile of the gate's features. -/
theorem rblk0_apply (r : Fin 2048) (k : Fin 1024) :
    (rblk V c 0 t : FVec Ideal S2048x1024 .f32) (ix2 r k) = (V c main_arg0 : FVec Ideal S16384x1024 .f32) (ix2 (token t r) k) := by
  have h := (router_index t).1.1
  refine congrArg (V c main_arg0 : FVec Ideal S16384x1024 .f32) (funext fun a => Fin.ext ?_)
  match a with
  | ⟨0, _⟩ => show win0_0.index t 0 * 2048 + 1 * r.val = 2048 * t.val + r.val; rw [h.1]; omega
  | ⟨1, _⟩ => show win0_0.index t 1 * 1024 + 1 * k.val = k.val; rw [h.2]; omega

/-- The gate's weights, whole at every tile. -/
theorem rblk1_apply (k : Fin 1024) (e : Fin 8) :
    (rblk V c 1 t : FVec Ideal S1024x8 .f32) (ix2 k e) = (V c main_arg2 : FVec Ideal S1024x8 .f32) (ix2 k e) := by
  have h := (router_index t).1.2.1
  refine congrArg (V c main_arg2 : FVec Ideal S1024x8 .f32) (funext fun a => Fin.ext ?_)
  match a with
  | ⟨0, _⟩ => show win0_1.index t 0 * 1024 + 1 * k.val = k.val; rw [h.1]; omega
  | ⟨1, _⟩ => show win0_1.index t 1 * 8 + 1 * e.val = e.val; rw [h.2]; omega

/-- The gate's bias, whole at every tile. -/
theorem rblk2_apply (e : Fin 8) :
    (rblk V c 2 t : FVec Ideal S1x8 .f32) (ix2 0 e) = (V c main_v3 : FVec Ideal S1x8 .f32) (ix2 0 e) := by
  have h := (router_index t).1.2.2
  refine congrArg (V c main_v3 : FVec Ideal S1x8 .f32) (funext fun a => Fin.ext ?_)
  match a with
  | ⟨0, _⟩ => show win0_2.index t 0 * 1 + 1 * 0 = 0; rw [h.1]
  | ⟨1, _⟩ => show win0_2.index t 1 * 8 + 1 * e.val = e.val; rw [h.2]; omega

/-- The logits of a token read at the region's entry. -/
abbrev entryLogits (i : Fin 16384) : Fin 8 → EReal := rowLogits (V c main_arg0) (V c main_arg2) (V c main_v3) i

/-- A tile's logits are its tokens' logits. -/
theorem blockLogits_rblk (r : Fin 2048) :
    blockLogits (rblk V c 0 t) (rblk V c 1 t) (rblk V c 2 t) r = entryLogits V c (token t r) := by
  funext e
  unfold blockLogits
  rw [rblk2_apply]
  refine congrArg (· + _) (Finset.sum_congr rfl fun k _ => ?_)
  rw [rblk0_apply, rblk1_apply]

/-! ## The arrays -/

attribute [local irreducible] rowPick rowProb rowInv rowLogits

/-- The probabilities, one column per token. -/
def probsArr : FVec Ideal S8x16384 .f32 := fun j => rowProb (entryLogits V c (j 1)) (j 0)
/-- The choices. -/
def pickArr : IVec S1x16384 32 := fun j => rowPick (entryLogits V c (j 1))
/-- The chosen probabilities. -/
def topArr : FVec Ideal S1x16384 .f32 := fun j => rowInv (entryLogits V c (j 1))

/-- The router call leaves the probabilities in its first array, -/
theorem router_probs : (routerDat V c).arrAt 3 cfg0.N = probsArr V c := by
  refine (routerDat V c).arrAt_eq_of_cover 3 (probsArr V c) (fun t _ => ?_) fun i => ?_
  · have h := (router_index t).2.1
    show (cfg0.win 3).cut (grid0.coords t) ((routerDat V c).after 3 t) = _
    rw [router_after3]
    funext j
    obtain ⟨e, r, rfl⟩ : ∃ (e : Fin 8) (r : Fin 2048), j = ix2 e r := ⟨j 0, j 1, eq_ix2 j⟩
    refine ((k0_pay6_apply _ _ _ e r).trans (congrArg (rowProb · e) (blockLogits_rblk V c t r))).trans ?_
    refine congrArg₂ (fun (a : Fin 16384) (b : Fin 8) => rowProb (entryLogits V c a) b) (Fin.ext ?_) (Fin.ext ?_)
    · show 2048 * t.val + r.val = win0_3.index t 1 * 2048 + 1 * r.val; rw [h.2]; omega
    · show e.val = win0_3.index t 0 * 8 + 1 * e.val; rw [h.1]; omega
  · have h0 : (i 0).val < 8 := (i 0).isLt
    have h1 : (i 1).val < 16384 := (i 1).isLt
    have ht : (i 1).val / 2048 < cfg0.N := by rw [show cfg0.N = 8 from N_0]; omega
    have h := (router_index ⟨(i 1).val / 2048, ht⟩).2.1
    refine ⟨⟨(i 1).val / 2048, ht⟩, flush0_3 _, ?_⟩
    show i ∈ ((View.whole main_v4_0).slice (win0_3.rect ⟨(i 1).val / 2048, ht⟩)).set
    rw [View.set_slice_whole, Rect.mem_set_unit]
    intro a
    match a with
    | ⟨0, _⟩ => show win0_3.index _ 0 * 8 ≤ (i 0).val ∧ (i 0).val < win0_3.index _ 0 * 8 + 8; rw [h.1]; omega
    | ⟨1, _⟩ => show win0_3.index _ 1 * 2048 ≤ (i 1).val ∧ (i 1).val < win0_3.index _ 1 * 2048 + 2048; rw [h.2]; dsimp only; omega

/-- the choices in its second -/
theorem router_pick : (routerDat V c).arrAt 4 cfg0.N = pickArr V c := by
  refine (routerDat V c).arrAt_eq_of_cover 4 (pickArr V c) (fun t _ => ?_) fun i => ?_
  · have h := (router_index t).2.2.1
    show (cfg0.win 4).cut (grid0.coords t) ((routerDat V c).after 4 t) = _
    rw [router_after4]
    funext j
    obtain ⟨z, r, rfl⟩ : ∃ (z : Fin 1) (r : Fin 2048), j = ix2 z r := ⟨j 0, j 1, eq_ix2 j⟩
    obtain rfl := Subsingleton.elim z 0
    refine ((k0_pay5_apply _ _ _ r).trans (congrArg rowPick (blockLogits_rblk V c t r))).trans ?_
    refine congrArg (fun a : Fin 16384 => rowPick (entryLogits V c a)) (Fin.ext ?_)
    show 2048 * t.val + r.val = win0_4.index t 1 * 2048 + 1 * r.val; rw [h.2]; omega
  · have h0 : (i 0).val < 1 := (i 0).isLt
    have h1 : (i 1).val < 16384 := (i 1).isLt
    have ht : (i 1).val / 2048 < cfg0.N := by rw [show cfg0.N = 8 from N_0]; omega
    have h := (router_index ⟨(i 1).val / 2048, ht⟩).2.2.1
    refine ⟨⟨(i 1).val / 2048, ht⟩, flush0_4 _, ?_⟩
    show i ∈ ((View.whole main_v4_1).slice (win0_4.rect ⟨(i 1).val / 2048, ht⟩)).set
    rw [View.set_slice_whole, Rect.mem_set_unit]
    intro a
    match a with
    | ⟨0, _⟩ => show win0_4.index _ 0 * 1 ≤ (i 0).val ∧ (i 0).val < win0_4.index _ 0 * 1 + 1; rw [h.1]; omega
    | ⟨1, _⟩ => show win0_4.index _ 1 * 2048 ≤ (i 1).val ∧ (i 1).val < win0_4.index _ 1 * 2048 + 2048; rw [h.2]; dsimp only; omega

/-- and the chosen probabilities in its third. -/
theorem router_top : (routerDat V c).arrAt 5 cfg0.N = topArr V c := by
  refine (routerDat V c).arrAt_eq_of_cover 5 (topArr V c) (fun t _ => ?_) fun i => ?_
  · have h := (router_index t).2.2.2
    show (cfg0.win 5).cut (grid0.coords t) ((routerDat V c).after 5 t) = _
    rw [router_after5]
    funext j
    obtain ⟨z, r, rfl⟩ : ∃ (z : Fin 1) (r : Fin 2048), j = ix2 z r := ⟨j 0, j 1, eq_ix2 j⟩
    obtain rfl := Subsingleton.elim z 0
    refine ((k0_pay4_apply _ _ _ r).trans (congrArg rowInv (blockLogits_rblk V c t r))).trans ?_
    refine congrArg (fun a : Fin 16384 => rowInv (entryLogits V c a)) (Fin.ext ?_)
    show 2048 * t.val + r.val = win0_5.index t 1 * 2048 + 1 * r.val; rw [h.2]; omega
  · have h0 : (i 0).val < 1 := (i 0).isLt
    have h1 : (i 1).val < 16384 := (i 1).isLt
    have ht : (i 1).val / 2048 < cfg0.N := by rw [show cfg0.N = 8 from N_0]; omega
    have h := (router_index ⟨(i 1).val / 2048, ht⟩).2.2.2
    refine ⟨⟨(i 1).val / 2048, ht⟩, flush0_5 _, ?_⟩
    show i ∈ ((View.whole main_v4_2).slice (win0_5.rect ⟨(i 1).val / 2048, ht⟩)).set
    rw [View.set_slice_whole, Rect.mem_set_unit]
    intro a
    match a with
    | ⟨0, _⟩ => show win0_5.index _ 0 * 1 ≤ (i 0).val ∧ (i 0).val < win0_5.index _ 0 * 1 + 1; rw [h.1]; omega
    | ⟨1, _⟩ => show win0_5.index _ 1 * 2048 ≤ (i 1).val ∧ (i 1).val < win0_5.index _ 1 * 2048 + 2048; rw [h.2]; dsimp only; omega

end Cert.Moe

end
-- ==== Proof.ExpertValue.lean ====
/-
  What one block of the expert call computes, entry by entry, over the extended reals: at each of the block's tokens and
  each expert the mean square of the token's 64 expert outputs, and what the call adds up of it over the tokens routed to
  that expert.
-/
module

public import proofs.«01_k».proof.Proof.RowMath
public import proofs.«01_k».proof.Proof.Gen.KernelIdeal.Skeleton

@[expose] public section

set_option maxRecDepth 16384

noncomputable section

namespace Cert.Moe

open Cert.KernelIdeal Cert.KernelIdeal.Gen
open Idealize.ShloMosaic

/-- The word of the kernel's factor stands for 1/64. -/
theorem ofBits_inv64 : Ideal.ofBits .f32 0x3C800000#32 = ((1 / 64 : ℝ) : EReal) := by
  simp [Ideal.ofBits, Ideal.ieee]
  rw [← EReal.coe_mul]
  norm_num

/-- A constant that is a nonnegative real moves out of a sum. -/
theorem sum_mul_real {ι : Type} (s : Finset ι) (f : ι → EReal) (c : ℝ) (hc : 0 ≤ c) :
    ∑ i ∈ s, f i * (c : EReal) = (∑ i ∈ s, f i) * (c : EReal) := by
  classical
  induction s using Finset.induction_on with
  | empty => simp
  | insert a s ha ih =>
    rw [Finset.sum_insert ha, Finset.sum_insert ha, ih,
      EReal.right_distrib_of_nonneg_of_ne_top (EReal.coe_nonneg.mpr hc) (EReal.coe_ne_top c)]

/-- The sum of a function over the numbers below 512 whose quotient by 64 is `e` is the sum over the 64 of that run. -/
theorem sum_run64 (e : Fin 8) (f : Fin 512 → EReal) :
    (∑ j : Fin 512, if j.val / 64 = e.val then f j else 0) = ∑ d : Fin 64, f ⟨64 * e.val + d.val, by omega⟩ := by
  rw [← Finset.sum_filter]
  symm
  refine Finset.sum_bij (fun d _ => ⟨64 * e.val + d.val, by omega⟩) ?_ ?_ ?_ ?_
  · intro d _
    simp only [Finset.mem_filter, Finset.mem_univ, true_and]
    omega
  · intro d _ d' _ h
    have := congrArg Fin.val h
    simp only at this
    exact Fin.ext (by omega)
  · intro j hj
    simp only [Finset.mem_filter, Finset.mem_univ, true_and] at hj
    exact ⟨⟨j.val % 64, by omega⟩, Finset.mem_univ _, Fin.ext (by simp only; omega)⟩
  · intro d _
    rfl

/-- Output `64 * e + d` of a block's token `r`: its features times that column. -/
def blockHidden (x : Vec Ideal S2048x1024 .f32) (w : Vec Ideal S1024x512 .bf16) (r : Fin 2048) (j : Fin 512) : EReal :=
  ∑ k : Fin 1024, x (ix2 r k) * w (ix2 k j)

/-- The kernel's quotient of `j` by 64, rounded down, compared with `e`. -/
theorem quotient_test : ∀ (j : Fin 512) (e : Fin 8), IntOp.cmpi CmpIPredicate.eq
          (Scalar.select
            (IntOp.andi
              (IntOp.cmpi CmpIPredicate.ne
                (IntOp.subi (BitVec.setWidth 32 (IntOp.cmpi CmpIPredicate.sgt (BitVec.ofNat 32 j.val) 0#32))
                  (BitVec.setWidth 32 (IntOp.cmpi CmpIPredicate.slt (BitVec.ofNat 32 j.val) 0#32)))
                (Scalar.subi (Scalar.extui (Scalar.cmpi CmpIPredicate.sgt 64#32 0#32))
                  (Scalar.extui (Scalar.cmpi CmpIPredicate.slt 64#32 0#32))))
              (IntOp.cmpi CmpIPredicate.ne (IntOp.remsi ArithUnit.vector (BitVec.ofNat 32 j.val) 64#32) 0#32))
            (IntOp.subi (IntOp.divsi ArithUnit.vector (BitVec.ofNat 32 j.val) 64#32) 1#32)
            (IntOp.divsi ArithUnit.vector (BitVec.ofNat 32 j.val) 64#32))
          (BitVec.ofNat 32 e.val) = BitVec.ofBool (decide (j.val / 64 = e.val)) := by
  decide +kernel

/-- The mean square of the 64 outputs of expert `e` at token `r`. -/
theorem k1_pay7_apply (x : Vec Ideal S2048x1024 .f32) (w : Vec Ideal S1024x512 .bf16) (e : Fin 8) (r : Fin 2048) :
    k1_pay7 (F := Ideal) x w (ix2 e r)
      = (∑ d : Fin 64, blockHidden x w r ⟨64 * e.val + d.val, by omega⟩ * blockHidden x w r ⟨64 * e.val + d.val, by omega⟩)
        * ((1 / 64 : ℝ) : EReal) := by
  pointwise [k1_pay7]
  rw [← sum_mul_real _ _ _ (by norm_num), ← sum_run64 e fun j => blockHidden x w r j * blockHidden x w r j * ((1 / 64 : ℝ) : EReal)]
  refine Finset.sum_congr rfl fun j _ => ?_
  rw [quotient_test, ofBits_inv64]
  by_cases h : j.val / 64 = e.val
  · rw [if_pos h, decide_eq_true h]; rfl
  · rw [if_neg h, decide_eq_false h]; rfl

/-- One where the token is routed to `e`, zero elsewhere. -/
theorem k1_pay1_apply (s : Vec Ideal S1x2048 .i32) (e : Fin 8) (r : Fin 2048) :
    k1_pay1 (F := Ideal) s (ix2 e r) = if s (ix2 0 r) = BitVec.ofNat 32 e.val then 1 else 0 := by
  pointwise [k1_pay1]
  by_cases h : s (ix2 0 r) = BitVec.ofNat 32 e.val
  · rw [if_pos h, h]
    have : IntOp.cmpi CmpIPredicate.eq (BitVec.ofNat 32 e.val) (BitVec.ofNat 32 e.val) = 1#1 := by simp [IntOp.cmpi]
    rw [this]
    show (((BitVec.setWidth 32 1#1).toInt : ℝ) : EReal) = 1
    norm_num
  · rw [if_neg h]
    have : IntOp.cmpi CmpIPredicate.eq (BitVec.ofNat 32 e.val) (s (ix2 0 r)) = 0#1 := by
      show BitVec.ofBool (BitVec.ofNat 32 e.val == s (ix2 0 r)) = 0#1
      rw [beq_eq_false_iff_ne.mpr (Ne.symm h)]
      rfl
    rw [this]
    show (((BitVec.setWidth 32 0#1).toInt : ℝ) : EReal) = 0
    norm_num

/-- The sums take in the block's tokens routed to `e`. -/
theorem k1_pay2_apply (p : Vec Ideal S8x2048 .f32) (s : Vec Ideal S1x2048 .i32) (a : Vec Ideal S8x1 .f32) (e : Fin 8) :
    k1_pay2 (F := Ideal) p s a (ix2 e 0)
      = a (ix2 e 0) + ∑ r : Fin 2048, if s (ix2 0 r) = BitVec.ofNat 32 e.val then p (ix2 e r) else 0 := by
  pointwise [k1_pay2]
  refine congrArg _ (Finset.sum_congr rfl fun r _ => ?_)
  rw [k1_pay1_apply]
  split
  · rw [one_mul]
  · rw [zero_mul]

/-- The counts take in one for each of them. -/
theorem k1_pay3_apply (s : Vec Ideal S1x2048 .i32) (a : Vec Ideal S8x1 .f32) (e : Fin 8) :
    k1_pay3 (F := Ideal) s a (ix2 e 0)
      = a (ix2 e 0) + ∑ r : Fin 2048, if s (ix2 0 r) = BitVec.ofNat 32 e.val then (1 : EReal) else 0 := by
  pointwise [k1_pay3]
  exact congrArg _ (Finset.sum_congr rfl fun r _ => k1_pay1_apply s e r)

/-- The loss: the experts' means, an expert with no token counting zero. -/
theorem k1_pay4_apply (n s : Vec Ideal S8x1 .f32) (j : S1x1.Idx) :
    k1_pay4 (F := Ideal) n s j
      = ∑ e : Fin 8, if 0 < n (ix2 e 0) then Ideal.div (s (ix2 e 0)) (max (n (ix2 e 0)) 1) else 0 := by
  pointwise [k1_pay4]

/-- The sums start at zero. -/
theorem k1_pay5_apply (e : Fin 8) : k1_pay5 (F := Ideal) (ix2 e 0) = 0 := by
  pointwise [k1_pay5]

/-- The counts start at zero. -/
theorem k1_pay6_apply (e : Fin 8) : k1_pay6 (F := Ideal) (ix2 e 0) = 0 := by
  pointwise [k1_pay6]

end Cert.Moe

end
-- ==== Proof.ReferenceValue.lean ====
/-
  What the reference computes, entry by entry, over the extended reals: the routing of each token (its probabilities, the
  front of their sort) and each expert's share of the loss.
-/
module

public import proofs.«01_k».proof.Proof.RouterValue
public import proofs.«01_k».proof.Proof.Gen.ReferenceIdeal.Run

@[expose] public section

set_option maxRecDepth 16384

noncomputable section

namespace Cert.Moe

open Cert.ReferenceIdeal Cert.ReferenceIdeal.Gen Cert.ReferenceIdeal.Value
open Idealize.ShloMosaic Idealize.ShloMosaic.TcCoe Idealize.SL.Sem

/-! ## The routing -/

/-- The largest entry of each row. -/
theorem ref_max (x : FVec Ideal S16384x8 .f32) (i : Fin 16384) :
    Host.reduce FloatOps.maximumf x (constant (F := Ideal) S_ .f32 0xFF800000#32) reducesTo_S16384x8_S16384_d1 h_S_ (ix1 i)
      = rowMax fun e => x (ix2 i e) := by
  pointwise
  rw [ofBits_neg_inf]
  rfl

/-- The exponentials of the entries less the row's largest. -/
theorem ref_exp (x : FVec Ideal S16384x8 .f32) (i : Fin 16384) (e : Fin 8) :
    Host.exp (subf x (broadcastInDim S16384x8 ![0, 1] bcast_S16384x1_S16384x8_0_1 (broadcastInDim S16384x1 ![0] bcast_S16384_S16384x1_0
      (maximumf (broadcastInDim S16384 ![] bcast_S_S16384 (constant S_ .f32 0xFF800000#32))
        (Host.reduce FloatOps.maximumf x (constant S_ .f32 0xFF800000#32) reducesTo_S16384x8_S16384_d1 h_S_))))) (ix2 i e)
      = rowExp (fun e => x (ix2 i e)) e := by
  have h := ref_max x i
  generalize Host.reduce FloatOps.maximumf x (constant (F := Ideal) S_ .f32 0xFF800000#32) reducesTo_S16384x8_S16384_d1 h_S_ = v at h ⊢
  pointwise
  rw [h, ofBits_neg_inf, max_eq_right bot_le]
  rfl

/-- The entries over their row's sum. -/
theorem ref_quotient (y : FVec Ideal S16384x8 .f32) (i : Fin 16384) (g : Fin 8 → EReal) (hg : ∀ e, y (ix2 i e) = g e) (e : Fin 8) :
    Host.divf y (broadcastInDim S16384x8 ![0, 1] bcast_S16384x1_S16384x8_0_1 (broadcastInDim S16384x1 ![0] bcast_S16384_S16384x1_0
      (Host.reduceAdd y (constant S_ .f32 0x00000000#32) reducesTo_S16384x8_S16384_d1 h_S_))) (ix2 i e)
      = Ideal.div (g e) (∑ e', g e') := by
  pointwise
  simp only [hg]

/-- Token `i`'s eight logits. -/
def logits (G : FVec Ideal S16384x1024 .f32) (Wg : FVec Ideal S1024x8 .f32) (b : FVec Ideal S8 .f32) (i : Fin 16384) (e : Fin 8) :
    EReal :=
  (∑ k : Fin 1024, G (ix2 i k) * Wg (ix2 k e)) + b (ix1 e)

variable (V : Valuation τ sig (Elt Ideal))

/-- The logits of the reference's arguments. -/
abbrev refLogits : Fin 16384 → Fin 8 → EReal :=
  logits (V (Proc.devRef .tc main_arg0)) (V (Proc.devRef .tc main_arg2)) (V (Proc.devRef .tc main_arg3))

/-- The reference's probabilities, at real logits, are the kernel's. -/
theorem ref_prob (i : Fin 16384) (hl : ∀ e, ∃ x : ℝ, refLogits V i e = x) (e : Fin 8) :
    (res_main_v14 V : FVec Ideal S16384x8 .f32) (ix2 i e) = rowProb (refLogits V i) e := by
  have h3 : (fun e => (res_main_v3 V : FVec Ideal S16384x8 .f32) (ix2 i e)) = refLogits V i := by
    funext e
    pointwise [res_main_v3]
    rfl
  have h10 : ∀ e, (res_main_v10 V : FVec Ideal S16384x8 .f32) (ix2 i e) = rowExp (refLogits V i) e := fun e => by
    rw [← h3]
    exact ref_exp (res_main_v3 V) i e
  exact (ref_quotient (res_main_v10 V) i _ h10 e).trans (div_eq_rowProb _ hl e)

/-- The front of each row of a two-operand sort along the rows: both operands at the position the sort puts first. -/
theorem sort2_front {α β : Type} (cmp : α × β → α × β → BitVec 1) (x : S16384x8.Idx → α) (y : S16384x8.Idx → β)
    (i : Fin 16384) (p : Fin 8)
    (hp : sortedFrom (fun k k' : Fin 8 => cmp (x (ix2 i k), y (ix2 i k)) (x (ix2 i k'), y (ix2 i k')) == 1#1) 0 = p) :
    (Host.sort2 S16384x8 1 cmp x y).1 (ix2 i 0) = x (ix2 i p) ∧ (Host.sort2 S16384x8 1 cmp x y).2 (ix2 i 0) = y (ix2 i p) := by
  have halong : ∀ k : Fin 8, Shape.Idx.along (s := S16384x8) (ix2 i 0) 1 k = ix2 i k := fun k => by
    funext a
    fin_cases a <;> rfl
  have hq : Shape.Idx.along (s := S16384x8) (ix2 i 0) 1 (sortedFrom (fun k k' : Fin 8 =>
      cmp (x (Shape.Idx.along (s := S16384x8) (ix2 i 0) 1 k), y (Shape.Idx.along (s := S16384x8) (ix2 i 0) 1 k))
        (x (Shape.Idx.along (s := S16384x8) (ix2 i 0) 1 k'), y (Shape.Idx.along (s := S16384x8) (ix2 i 0) 1 k')) == 1#1) (0 : Fin 8))
      = ix2 i p := by
    simp only [halong]
    exact (congrArg (fun q : Fin 8 => Shape.Idx.along (s := S16384x8) (ix2 i 0) 1 q) hp).trans (halong p)
  unfold Host.sort2
  rw [dif_pos (show 1 < S16384x8.rank by decide)]
  exact ⟨congrArg x hq, congrArg y hq⟩

/-- Where entry `p` is the first of the largest of row `i`, the front of the row sorted greater first is that entry, at `p`. -/
theorem topK_first (x : FVec Ideal S16384x8 .f32) (i : Fin 16384) (p : Fin 8)
    (hmax : ∀ k, (x (ix2 i k) : EReal) ≤ x (ix2 i p)) (hfirst : ∀ k, k < p → (x (ix2 i k) : EReal) < x (ix2 i p)) :
    (Host.topK S16384x1 1 (FloatOps.cmpfTotal (F := Ideal) (φ := .f32) .gt) x sliceFits_S16384x8_S16384x1).1 (ix2 i 0) = x (ix2 i p)
    ∧ (Host.topK S16384x1 1 (FloatOps.cmpfTotal (F := Ideal) (φ := .f32) .gt) x sliceFits_S16384x8_S16384x1).2 (ix2 i 0)
        = BitVec.ofNat 32 p.val := by
  have hsrc : ∀ {α : Type} (y : S16384x8.Idx → α), extractStridedSlice S16384x1 (fun _ => 0) y sliceFits_S16384x8_S16384x1 (ix2 i 0)
      = y (ix2 i 0) := fun y => by pointwise
  have hs := fun y : IVec S16384x8 32 => sort2_front
    (fun l r : Ideal .f32 × BitVec 32 => FloatOps.cmpfTotal (F := Ideal) (φ := .f32) .gt l.1 r.1) x y i p <|
      sortedFrom_zero (fun k => (x (ix2 i k) : EReal)) _ (fun k k' => by
        show (BitVec.ofBool (decide _) == 1#1) = _
        by_cases h : (x (ix2 i k') : EReal) < x (ix2 i k)
        · rw [decide_eq_true h]
          rfl
        · rw [decide_eq_false h]
          rfl) p hmax hfirst
  unfold Host.topK
  dsimp only
  exact ⟨(hsrc _).trans (hs _).1, (hsrc _).trans ((hs _).2.trans rfl)⟩

/-- The reference's top probability and its index, at real logits, are the kernel's. -/
theorem ref_top (i : Fin 16384) (hl : ∀ e, ∃ x : ℝ, refLogits V i e = x) :
    (Host.topK S16384x1 1 (FloatOps.cmpfTotal (F := Ideal) (φ := .f32) .gt) (res_main_v14 V) sliceFits_S16384x8_S16384x1).1 (ix2 i 0)
        = rowInv (refLogits V i)
    ∧ (Host.topK S16384x1 1 (FloatOps.cmpfTotal (F := Ideal) (φ := .f32) .gt) (res_main_v14 V) sliceFits_S16384x8_S16384x1).2 (ix2 i 0)
        = rowPick (refLogits V i) := by
  obtain ⟨p, hpick, hinv, hmax, hfirst⟩ := rowPick_first (refLogits V i) hl
  have h := topK_first (res_main_v14 V) i p
    (fun k => by rw [ref_prob V i hl, ref_prob V i hl]; exact hmax k)
    (fun k hk => by rw [ref_prob V i hl, ref_prob V i hl]; exact hfirst k hk)
  exact ⟨h.1.trans ((ref_prob V i hl p).trans hinv), h.2.trans hpick.symm⟩

/-- The reference's assignments, at real logits, are the kernel's. -/
theorem ref_assign (i : Fin 16384) (hl : ∀ e, ∃ x : ℝ, refLogits V i e = x) :
    (res_main_v15 V : IVec S16384 32) (ix1 i) = rowPick (refLogits V i) := by
  refine Eq.trans ?_ (ref_top V i hl).2
  unfold res_main_v15
  generalize (Host.topK S16384x1 1 (FloatOps.cmpfTotal (F := Ideal) (φ := .f32) .gt) (res_main_v14 V) sliceFits_S16384x8_S16384x1).2 = y
  have h : ∀ y : IVec S16384x1 32, shapeCast S16384 y shapeCasts_S16384x1_S16384 (ix1 i) = y (ix2 i 0) := fun y => by pointwise
  exact h y

end Cert.Moe

end
-- ==== Proof.ReferenceLoss.lean ====
/-
  The reference's loss over the extended reals: the sum over the eight experts of the mean, over the tokens assigned to
  the expert, of the mean square of the expert's 64 outputs; an expert with no token counts zero.
-/
module

public import proofs.«01_k».proof.Proof.ReferenceValue
public import proofs.«01_k».proof.Proof.ExpertValue
public import Idealize.ShloMosaic.Lib.IndicatorCount

@[expose] public section

set_option maxRecDepth 16384

noncomputable section

namespace Cert.Moe

open Cert.ReferenceIdeal Cert.ReferenceIdeal.Gen Cert.ReferenceIdeal.Value
open Idealize.ShloMosaic Idealize.ShloMosaic.TcCoe Idealize.SL.Sem

/-! ## The loss as a function of the assignments and of each expert's mean squares -/

/-- How many tokens are assigned to the expert numbered `w`. -/
def tokens (a : Fin 16384 → BitVec 32) (w : BitVec 32) : EReal := ∑ i, if a i = w then (1 : EReal) else 0
/-- The sum of `q` over those tokens. -/
def tokensSum (a : Fin 16384 → BitVec 32) (q : Fin 16384 → EReal) (w : BitVec 32) : EReal := ∑ i, if a i = w then q i else 0
/-- The mean of `q` over those tokens, zero where there are none. -/
def share (a : Fin 16384 → BitVec 32) (q : Fin 16384 → EReal) (w : BitVec 32) : EReal :=
  if 0 < tokens a w then Ideal.div (tokensSum a q w) (max (tokens a w) 1) else 0
/-- The loss: the sum of the experts' means. -/
def loss (a : Fin 16384 → BitVec 32) (q : Fin 8 → Fin 16384 → EReal) : EReal :=
  ∑ e : Fin 8, share a (q e) (BitVec.ofNat 32 e.val)

/-- Output `d` of expert `e` at token `i`. -/
def hidden (X : FVec Ideal S16384x1024 .f32) (W : FVec Ideal S8x1024x64 .f32) (e : Fin 8) (i : Fin 16384) (d : Fin 64) : EReal :=
  ∑ k : Fin 1024, X (ix2 i k) * W (ix3 e k d)
/-- The mean square of the 64 outputs of expert `e` at token `i`. -/
def energy (X : FVec Ideal S16384x1024 .f32) (W : FVec Ideal S8x1024x64 .f32) (e : Fin 8) (i : Fin 16384) : EReal :=
  (∑ d : Fin 64, hidden X W e i d * hidden X W e i d) * ((1 / 64 : ℝ) : EReal)

/-! ## The reference's expression for one expert -/

/-- The word of the reference's divisor stands for 64. -/
theorem ofBits_64 : Ideal.ofBits .f32 0x42800000#32 = ((64 : ℝ) : EReal) := by
  simp [Ideal.ofBits, Ideal.ieee]
  rw [← EReal.coe_mul]
  norm_num

/-- One expert's share as the reference computes it, from which tokens are its own, how many they are, and its outputs. -/
def refShare (mask : IVec S16384 1) (count : IVec S_ 32) (h : FVec Ideal S16384x64 .f32) : FVec Ideal S_ .f32 :=
  select (cmpi .sgt count (constantI S_ 32 0#32)) (Host.divf (Host.reduceAdd (select mask (Host.divf (Host.reduceAdd (mulf h h) (constant S_ .f32 0x00000000#32) reducesTo_S16384x64_S16384_d1 h_S_) (broadcastInDim S16384 ![] bcast_S_S16384 (constant S_ .f32 0x42800000#32))) (broadcastInDim S16384 ![] bcast_S_S16384 (id (constant S_ .f32 0x00000000#32)))) (constant S_ .f32 0x00000000#32) reducesTo_S16384_S_d0 h_S_) (sitofp .f32 (maxsi count (constantI S_ 32 1#32)))) (constant S_ .f32 0x00000000#32)

/-- The comparison of words for equality. -/
theorem cmpi_eq_one {w : Nat} (a b : BitVec w) : IntOp.cmpi CmpIPredicate.eq a b = 1#1 ↔ a = b := by
  show BitVec.ofBool (a == b) = 1#1 ↔ a = b
  by_cases h : a = b
  · simp [h]
  · rw [beq_eq_false_iff_ne.mpr h]
    simp [h]

/-- A count of at most 16384 as a signed word. -/
theorem toInt_count {n : ℕ} (h : n ≤ 16384) : (BitVec.ofNat 32 n).toInt = n := by
  rw [BitVec.toInt_eq_toNat_of_lt (by rw [BitVec.toNat_ofNat]; omega), BitVec.toNat_ofNat]
  omega

/-- A count's word is positive where the count is. -/
theorem sgt_count {n : ℕ} (h : n ≤ 16384) : IntOp.cmpi CmpIPredicate.sgt (BitVec.ofNat 32 n) 0#32 = BitVec.ofBool (decide (0 < n)) := by
  show BitVec.ofBool (BitVec.slt 0#32 (BitVec.ofNat 32 n)) = _
  rw [BitVec.slt_eq_decide, toInt_count h]
  simp

/-- The larger of a count's word and one, as a number. -/
theorem max_count {n : ℕ} (h : n ≤ 16384) : (FloatOps.sitofp .f32 (IntOp.maxsi (BitVec.ofNat 32 n) 1#32) : Ideal .f32)
    = max ((n : ℝ) : EReal) 1 := by
  show (((if BitVec.slt 1#32 (BitVec.ofNat 32 n) then BitVec.ofNat 32 n else 1#32 : BitVec 32).toInt : ℝ) : EReal) = _
  rw [BitVec.slt_eq_decide, toInt_count h]
  by_cases h1 : 1 < n
  · rw [if_pos (by simpa using h1), toInt_count h, max_eq_left]
    · simp
    · rw [← EReal.coe_one, EReal.coe_le_coe_iff]
      exact_mod_cast h1.le
  · rw [if_neg (by simpa using h1), max_eq_right]
    · simp
    · rw [← EReal.coe_one, EReal.coe_le_coe_iff]
      exact_mod_cast not_lt.mp h1

/-- Which tokens are assigned to the expert numbered `w`. -/
def refMask (a : IVec S16384 32) (w : BitVec 32) : IVec S16384 1 :=
  cmpi .eq a (broadcastInDim S16384 ![] bcast_S_S16384 (constantI S_ 32 w))
/-- How many they are, as a word. -/
def refCount (mask : IVec S16384 1) : IVec S_ 32 :=
  Host.reduce IntOp.addi (extui 32 mask natLt_1_32) (constantI S_ 32 0#32) reducesTo_S16384_S_d0 h_S_

/-- The mask at token `i`. -/
theorem refMask_apply (a : IVec S16384 32) (w : BitVec 32) (i : Fin 16384) :
    refMask a w (ix1 i) = IntOp.cmpi CmpIPredicate.eq (a (ix1 i)) w := by
  pointwise [refMask]

/-- How many tokens are assigned to `w`. -/
def count (a : Fin 16384 → BitVec 32) (w : BitVec 32) : ℕ := (Finset.univ.filter fun i : Fin 16384 => a i = w).card

/-- A count is at most the number of tokens. -/
theorem count_le (a : Fin 16384 → BitVec 32) (w : BitVec 32) : count a w ≤ 16384 :=
  (Finset.card_filter_le _ _).trans (by simp)

/-- The number of tokens as a natural number. -/
theorem tokens_eq (a : Fin 16384 → BitVec 32) (w : BitVec 32) : tokens a w = ((count a w : ℝ) : EReal) := by
  unfold tokens count
  rw [Finset.sum_boole]
  rfl

/-- The reference's count is that number's word. -/
theorem refCount_apply (a : IVec S16384 32) (w : BitVec 32) :
    refCount (refMask a w) ix0 = BitVec.ofNat 32 (count (fun i => a (ix1 i)) w) := by
  pointwise [refCount]
  rw [IndicatorCount.fold_addi_setWidth_eq_card]
  simp only [refMask_apply, cmpi_eq_one]
  rfl

/-- A mean square as the reference computes it. -/
theorem mean_square (q : EReal) : Ideal.div q (Ideal.ofBits FTy.f32 0x42800000#32) = q * ((1 / 64 : ℝ) : EReal) := by
  rw [ofBits_64, Ideal.div_coe (by norm_num)]

/-- The reference's expression is the share. -/
theorem refShare_apply (a : IVec S16384 32) (h : FVec Ideal S16384x64 .f32) (w : BitVec 32) (j : S_.Idx) :
    refShare (refMask a w) (refCount (refMask a w)) h j = share (fun i => a (ix1 i))
      (fun i => (∑ d : Fin 64, h (ix2 i d) * h (ix2 i d)) * ((1 / 64 : ℝ) : EReal)) w := by
  obtain rfl : j = ix0 := funext fun k => k.elim0
  have hcount := refCount_apply a w
  have hmask := refMask_apply a w
  generalize refCount (refMask a w) = n at hcount ⊢
  generalize refMask a w = mask at hmask ⊢
  have h0 : id (constant (F := Ideal) S_ FTy.f32 0x00000000#32) ix0 = (0 : EReal) := Ideal.ofBits_zero_f32
  pointwise [refShare]
  rw [hcount, sgt_count (count_le _ _), max_count (count_le _ _), h0]
  unfold share
  rw [tokens_eq]
  have hpos : (0 : EReal) < ((count (fun i => a (ix1 i)) w : ℝ) : EReal) ↔ 0 < count (fun i => a (ix1 i)) w := by
    rw [← EReal.coe_zero, EReal.coe_lt_coe_iff]
    exact_mod_cast Iff.rfl
  have hsum : (∑ x : Fin 16384, Scalar.select (mask (ix1 x))
      (Ideal.div (∑ d : Fin 64, h (ix2 x d) * h (ix2 x d)) (Ideal.ofBits FTy.f32 0x42800000#32)) (0 : EReal))
      = tokensSum (fun i => a (ix1 i)) (fun i => (∑ d : Fin 64, h (ix2 i d) * h (ix2 i d)) * ((1 / 64 : ℝ) : EReal)) w := by
    refine Finset.sum_congr rfl fun i _ => ?_
    rw [hmask, mean_square]
    exact if_congr (cmpi_eq_one _ _) rfl rfl
  rw [hsum]
  by_cases hc : 0 < count (fun i => a (ix1 i)) w
  · rw [if_pos (hpos.mpr hc), decide_eq_true hc]
    exact if_pos rfl
  · rw [if_neg (mt hpos.mp hc), decide_eq_false hc]
    exact if_neg (by decide)

/-! ## The whole loss -/

variable (V : Valuation τ sig (Elt Ideal))

/-- The reference's outputs of expert `e`: the features times that slice of the weights. -/
def refHidden (X : FVec Ideal S16384x1024 .f32) (W : FVec Ideal S8x1024x64 .f32) (e : Fin 8)
    (hs : S8x1024x64.Slices ![e.val, 0, 0] S1x1024x64) : FVec Ideal S16384x64 .f32 :=
  Host.dotGeneral dot_S16384x1024_S1024x64_S16384x64_1_0_0_1_n_n none X
    (shapeCast S1024x64 (extractStridedSlice S1x1024x64 ![e.val, 0, 0] W hs) shapeCasts_S1x1024x64_S1024x64)

/-- Expert `e`'s outputs in the reference. -/
theorem refHidden_apply (X : FVec Ideal S16384x1024 .f32) (W : FVec Ideal S8x1024x64 .f32) (e : Fin 8)
    (hs : S8x1024x64.Slices ![e.val, 0, 0] S1x1024x64) (i : Fin 16384) (d : Fin 64) :
    refHidden X W e hs (ix2 i d) = hidden X W e i d := by
  pointwise [refHidden, hidden]

/-- One expert's share, from the arguments. -/
theorem refShare_hidden (a : IVec S16384 32) (X : FVec Ideal S16384x1024 .f32) (W : FVec Ideal S8x1024x64 .f32) (e : Fin 8)
    (hs : S8x1024x64.Slices ![e.val, 0, 0] S1x1024x64) (mask : IVec S16384 1) (n : IVec S_ 32) (h : FVec Ideal S16384x64 .f32)
    (hmask : mask = refMask a (BitVec.ofNat 32 e.val)) (hn : n = refCount mask) (hh : h = refHidden X W e hs) (j : S_.Idx) :
    refShare mask n h j = share (fun i => a (ix1 i)) (energy X W e) (BitVec.ofNat 32 e.val) := by
  subst hn hmask hh
  rw [refShare_apply]
  simp only [refHidden_apply]
  rfl

/-- The reference's loss, as its run states it, is the sum of the shares. -/
theorem ref_loss :
    addf (res_main_v148 V) (refShare (res_main_v150 V) (res_main_v152 V) (res_main_v155 V))
      = fun _ => loss (fun i => (res_main_v15 V : IVec S16384 32) (ix1 i))
          (energy (V (Proc.devRef .tc main_arg1)) (V (Proc.devRef .tc main_arg4))) := by
  funext j
  have h : res_main_v148 V = addf (addf (addf (addf (addf (addf (addf (constant S_ .f32 0x00000000#32)
      (refShare (res_main_v17 V) (res_main_v19 V) (res_main_v22 V)))
      (refShare (res_main_v36 V) (res_main_v38 V) (res_main_v41 V)))
      (refShare (res_main_v55 V) (res_main_v57 V) (res_main_v60 V)))
      (refShare (res_main_v74 V) (res_main_v76 V) (res_main_v79 V)))
      (refShare (res_main_v93 V) (res_main_v95 V) (res_main_v98 V)))
      (refShare (res_main_v112 V) (res_main_v114 V) (res_main_v117 V)))
      (refShare (res_main_v131 V) (res_main_v133 V) (res_main_v136 V)) := by
    unfold res_main_v148 refShare
    rfl
  have hz : constant (F := Ideal) S_ .f32 0x00000000#32 j = (0 : EReal) := Ideal.ofBits_zero_f32
  have hadd : ∀ x y : FVec Ideal S_ .f32, addf x y j = (x j + y j : EReal) := fun _ _ => rfl
  have hshare := refShare_hidden (res_main_v15 V) (V (Proc.devRef .tc main_arg1)) (V (Proc.devRef .tc main_arg4))
  rw [h]
  simp only [hadd]
  rw [hz, zero_add,
    hshare 0 slices_S8x1024x64_S1x1024x64_0_0_0 _ _ _ (by unfold res_main_v17; rfl) (by unfold res_main_v19; rfl) (by unfold res_main_v22; rfl) j,
    hshare 1 slices_S8x1024x64_S1x1024x64_1_0_0 _ _ _ (by unfold res_main_v36; rfl) (by unfold res_main_v38; rfl) (by unfold res_main_v41; rfl) j,
    hshare 2 slices_S8x1024x64_S1x1024x64_2_0_0 _ _ _ (by unfold res_main_v55; rfl) (by unfold res_main_v57; rfl) (by unfold res_main_v60; rfl) j,
    hshare 3 slices_S8x1024x64_S1x1024x64_3_0_0 _ _ _ (by unfold res_main_v74; rfl) (by unfold res_main_v76; rfl) (by unfold res_main_v79; rfl) j,
    hshare 4 slices_S8x1024x64_S1x1024x64_4_0_0 _ _ _ (by unfold res_main_v93; rfl) (by unfold res_main_v95; rfl) (by unfold res_main_v98; rfl) j,
    hshare 5 slices_S8x1024x64_S1x1024x64_5_0_0 _ _ _ (by unfold res_main_v112; rfl) (by unfold res_main_v114; rfl) (by unfold res_main_v117; rfl) j,
    hshare 6 slices_S8x1024x64_S1x1024x64_6_0_0 _ _ _ (by unfold res_main_v131; rfl) (by unfold res_main_v133; rfl) (by unfold res_main_v136; rfl) j,
    hshare 7 slices_S8x1024x64_S1x1024x64_7_0_0 _ _ _ (by unfold res_main_v150; rfl) (by unfold res_main_v152; rfl) (by unfold res_main_v155; rfl) j]
  unfold loss
  rw [Fin.sum_univ_eight]

end Cert.Moe

end
-- ==== Proof.ExpertArrays.lean ====
/-
  The expert call's array after the run, over the extended reals: its two columns, after the eighth tile, hold each expert's
  sum of mean squares and number of tokens over all the tokens, and the loss it writes is the sum of the experts' means.
-/
module

public import proofs.«01_k».proof.Proof.RouterArrays
public import proofs.«01_k».proof.Proof.ExpertValue
public import proofs.«01_k».proof.Proof.ReferenceLoss

@[expose] public section

set_option maxRecDepth 16384

noncomputable section

namespace Cert.Moe

open Cert.KernelIdeal Cert.KernelIdeal.Gen
open Idealize.ShloMosaic Idealize.ShloMosaic.TcCoe Idealize.SL.Sem
open Idealize.ShloMosaic.Pipeline (Dat)

/-! ## Sums over tiles -/

/-- Summing tile by tile is summing over the tokens. -/
theorem sum_token (f : Fin 16384 → EReal) : ∑ t : Fin 8, ∑ r : Fin 2048, f (token t r) = ∑ i, f i := by
  rw [← Fintype.sum_prod_type']
  refine Fintype.sum_equiv (finProdFinEquiv : Fin 8 × Fin 2048 ≃ Fin (8 * 2048)) _ f fun p => congrArg f (Fin.ext ?_)
  show 2048 * p.1.val + p.2.val = p.2.val + 2048 * p.1.val
  omega

/-- A running value that starts at zero and gains `g t` at step `t` ends at the sum of the eight gains. -/
theorem running_sum (s : ℕ → EReal) (g : Fin 8 → EReal) (h0 : s 0 = 0) (hs : ∀ t : Fin 8, s (t.val + 1) = s t.val + g t) :
    s 8 = ∑ t, g t := by
  have h1 : s 1 = s 0 + g 0 := hs 0
  have h2 : s 2 = s 1 + g 1 := hs 1
  have h3 : s 3 = s 2 + g 2 := hs 2
  have h4 : s 4 = s 3 + g 3 := hs 3
  have h5 : s 5 = s 4 + g 4 := hs 4
  have h6 : s 6 = s 5 + g 5 := hs 5
  have h7 : s 7 = s 6 + g 6 := hs 6
  have h8 : s 8 = s 7 + g 7 := hs 7
  rw [Fin.sum_univ_eight, h8, h7, h6, h5, h4, h3, h2, h1, h0, zero_add]

/-! ## Where the windows' blocks lie -/

/-- The block numbers of the expert call's windows at each of the eight tiles. -/
theorem expert_index (t : Fin cfg1.N) :
    (win1_0.index t 0 = t.val ∧ win1_0.index t 1 = 0) ∧ (win1_1.index t 0 = 0 ∧ win1_1.index t 1 = t.val)
      ∧ (win1_2.index t 0 = 0 ∧ win1_2.index t 1 = 0) ∧ (win1_3.index t 0 = 0 ∧ win1_3.index t 1 = 0) :=
  (by decide +kernel : ∀ t : Fin grid1.N,
    (win1_0.index t 0 = t.val ∧ win1_0.index t 1 = 0) ∧ (win1_1.index t 0 = 0 ∧ win1_1.index t 1 = t.val)
      ∧ (win1_2.index t 0 = 0 ∧ win1_2.index t 1 = 0) ∧ (win1_3.index t 0 = 0 ∧ win1_3.index t 1 = 0)) t

variable (V : Dev nD → Valuation τ sig (Elt Ideal)) (c : Dev nD) (t : Fin cfg1.N)

/-- A tile of the tokens' features. -/
theorem eblk0_apply (r : Fin 2048) (k : Fin 1024) :
    (eblk V c 0 t : FVec Ideal S2048x1024 .f32) (ix2 r k) = (V c main_arg1 : FVec Ideal S16384x1024 .f32) (ix2 (token t r) k) := by
  have h := (expert_index t).1
  refine congrArg (V c main_arg1 : FVec Ideal S16384x1024 .f32) (funext fun a => Fin.ext ?_)
  match a with
  | ⟨0, _⟩ => show win1_0.index t 0 * 2048 + 1 * r.val = 2048 * t.val + r.val; rw [h.1]; omega
  | ⟨1, _⟩ => show win1_0.index t 1 * 1024 + 1 * k.val = k.val; rw [h.2]; omega

/-- A tile of the choices. -/
theorem eblk1_apply (r : Fin 2048) :
    (eblk V c 1 t : IVec S1x2048 32) (ix2 0 r) = (V c main_v4_1 : IVec S1x16384 32) (ix2 0 (token t r)) := by
  have h := (expert_index t).2.1
  refine congrArg (V c main_v4_1 : IVec S1x16384 32) (funext fun a => Fin.ext ?_)
  match a with
  | ⟨0, _⟩ => show win1_1.index t 0 * 1 + 1 * 0 = 0; rw [h.1]
  | ⟨1, _⟩ => show win1_1.index t 1 * 2048 + 1 * r.val = 2048 * t.val + r.val; rw [h.2]; omega

/-- The experts' weights, whole at every tile. -/
theorem eblk2_apply (k : Fin 1024) (j : Fin 512) :
    (eblk V c 2 t : FVec Ideal S1024x512 .bf16) (ix2 k j) = (V c main_v2 : FVec Ideal S1024x512 .bf16) (ix2 k j) := by
  have h := (expert_index t).2.2.1
  refine congrArg (V c main_v2 : FVec Ideal S1024x512 .bf16) (funext fun a => Fin.ext ?_)
  match a with
  | ⟨0, _⟩ => show win1_2.index t 0 * 1024 + 1 * k.val = k.val; rw [h.1]; omega
  | ⟨1, _⟩ => show win1_2.index t 1 * 512 + 1 * j.val = j.val; rw [h.2]; omega

/-! ## The two columns -/

/-- The choice read for token `i`. -/
def entryPick (i : Fin 16384) : BitVec 32 := (V c main_v4_1 : IVec S1x16384 32) (ix2 0 i)

/-- Column `j` of the experts' weights, side by side, against token `i`. -/
def packedHidden (X : FVec Ideal S16384x1024 .f32) (U : FVec Ideal S1024x512 .bf16) (i : Fin 16384) (j : Fin 512) : EReal :=
  ∑ k : Fin 1024, X (ix2 i k) * U (ix2 k j)

/-- The mean square of expert `e`'s 64 columns at token `i`. -/
def packedEnergy (X : FVec Ideal S16384x1024 .f32) (U : FVec Ideal S1024x512 .bf16) (e : Fin 8) (i : Fin 16384) : EReal :=
  (∑ d : Fin 64, packedHidden X U i ⟨64 * e.val + d.val, by omega⟩ * packedHidden X U i ⟨64 * e.val + d.val, by omega⟩)
    * ((1 / 64 : ℝ) : EReal)

/-- The two read at the region's entry. -/
abbrev entryHidden : Fin 16384 → Fin 512 → EReal := packedHidden (V c main_arg1) (V c main_v2)
abbrev entryEnergy : Fin 8 → Fin 16384 → EReal := packedEnergy (V c main_arg1) (V c main_v2)

/-- A tile's products are its tokens' products. -/
theorem blockHidden_eblk (r : Fin 2048) (j : Fin 512) :
    blockHidden (eblk V c 0 t) (eblk V c 2 t) r j = entryHidden V c (token t r) j := by
  unfold blockHidden entryHidden packedHidden
  refine Finset.sum_congr rfl fun k _ => ?_
  rw [eblk0_apply, eblk2_apply]

/-- A tile's mean squares are its tokens' mean squares. -/
theorem pay7_eblk (e : Fin 8) (r : Fin 2048) :
    k1_pay7 (eblk V c 0 t) (eblk V c 2 t) (ix2 e r) = entryEnergy V c e (token t r) := by
  rw [k1_pay7_apply]
  unfold entryEnergy packedEnergy
  simp only [blockHidden_eblk]

/-- One tile's step of the sums' column. -/
theorem acc_sums_succ (e : Fin 8) :
    (expertAcc V c (t.val + 1)).1 (ix2 e 0) = (expertAcc V c t.val).1 (ix2 e 0)
      + ∑ r : Fin 2048, if entryPick V c (token t r) = BitVec.ofNat 32 e.val then entryEnergy V c e (token t r) else 0 := by
  rw [expertAcc_succ]
  refine (k1_pay2_apply _ _ _ e).trans ?_
  simp only [pay7_eblk, eblk1_apply]
  rfl

/-- One tile's step of the counts' column. -/
theorem acc_counts_succ (e : Fin 8) :
    (expertAcc V c (t.val + 1)).2 (ix2 e 0) = (expertAcc V c t.val).2 (ix2 e 0)
      + ∑ r : Fin 2048, if entryPick V c (token t r) = BitVec.ofNat 32 e.val then (1 : EReal) else 0 := by
  rw [expertAcc_succ]
  refine (k1_pay3_apply _ _ e).trans ?_
  simp only [eblk1_apply]
  rfl

/-- After the eighth tile: the sums over all the tokens. -/
theorem acc_sums (e : Fin 8) :
    (expertAcc V c 8).1 (ix2 e 0) = tokensSum (entryPick V c) (entryEnergy V c e) (BitVec.ofNat 32 e.val) :=
  (running_sum (fun n => (expertAcc V c n).1 (ix2 e 0)) _ (k1_pay5_apply e) (fun t => acc_sums_succ V c t e)).trans
    (sum_token fun i => if entryPick V c i = BitVec.ofNat 32 e.val then entryEnergy V c e i else 0)

/-- After the eighth tile: the numbers of tokens. -/
theorem acc_counts (e : Fin 8) :
    (expertAcc V c 8).2 (ix2 e 0) = tokens (entryPick V c) (BitVec.ofNat 32 e.val) :=
  (running_sum (fun n => (expertAcc V c n).2 (ix2 e 0)) _ (k1_pay6_apply e) (fun t => acc_counts_succ V c t e)).trans
    (sum_token fun i => if entryPick V c i = BitVec.ofNat 32 e.val then (1 : EReal) else 0)

/-! ## The array -/

/-- What the last tile stores is the loss. -/
theorem pay4_acc (j : S1x1.Idx) :
    k1_pay4 (expertAcc V c 8).2 (expertAcc V c 8).1 j = loss (entryPick V c) (entryEnergy V c) := by
  rw [k1_pay4_apply]
  unfold loss share
  simp only [acc_sums, acc_counts]

/-- The loss the call leaves. -/
theorem expert_loss : (expertDat V c).arrAt 3 cfg1.N
    = ((fun _ => loss (entryPick V c) (entryEnergy V c)) : FVec Ideal S1x1 .f32) := by
  refine (expertDat V c).arrAt_eq_of_cover 3 (fun _ => loss (entryPick V c) (entryEnergy V c)) (fun t ht => ?_) fun i => ?_
  · have h7 : t.val + 1 = 8 := by
      have := (flush1_3 t).mp ht
      have h8 : t.val < 8 := t.isLt
      omega
    show (cfg1.win 3).cut (grid1.coords t) ((expertDat V c).after 3 t) = _
    rw [expert_after3, h7]
    funext j
    exact pay4_acc V c j
  · have h0 : (i 0).val < 1 := (i 0).isLt
    have h1 : (i 1).val < 1 := (i 1).isLt
    have ht : 7 < cfg1.N := by rw [show cfg1.N = 8 from N_1]; omega
    have h := (expert_index ⟨7, ht⟩).2.2.2
    refine ⟨⟨7, ht⟩, (flush1_3 _).mpr rfl, ?_⟩
    show i ∈ ((View.whole main_v5).slice (win1_3.rect ⟨7, ht⟩)).set
    rw [View.set_slice_whole, Rect.mem_set_unit]
    intro a
    match a with
    | ⟨0, _⟩ => show win1_3.index _ 0 * 1 ≤ (i 0).val ∧ (i 0).val < win1_3.index _ 0 * 1 + 1; rw [h.1]; omega
    | ⟨1, _⟩ => show win1_3.index _ 1 * 1 ≤ (i 1).val ∧ (i 1).val < win1_3.index _ 1 * 1 + 1; rw [h.2]; omega

end Cert.Moe

end
-- ==== Proof.KernelResults.lean ====
/-
  The kernel's five results as functions of its arguments, over the extended reals.
-/
module

public import proofs.«01_k».proof.Proof.ExpertArrays

@[expose] public section

set_option maxRecDepth 16384

noncomputable section

namespace Cert.Moe

open Cert.KernelIdeal Cert.KernelIdeal.Gen
open Idealize.ShloMosaic Idealize.ShloMosaic.TcCoe Idealize.SL.Sem

/-! ## The five functions -/

/-- The loss: the experts' mean energies under the routing the logits give. -/
def lossOf (G X : FVec Ideal S16384x1024 .f32) (Wg : FVec Ideal S1024x8 .f32) (b : FVec Ideal S8 .f32) (W : FVec Ideal S8x1024x64 .f32) :
    FVec Ideal S_ .f32 :=
  fun _ => loss (fun i => rowPick (logits G Wg b i)) (energy X W)
/-- The assignments. -/
def assignOf (G : FVec Ideal S16384x1024 .f32) (Wg : FVec Ideal S1024x8 .f32) (b : FVec Ideal S8 .f32) : IVec S16384 32 :=
  fun j => rowPick (logits G Wg b (j 0))
/-- The probabilities. -/
def probsOf (G : FVec Ideal S16384x1024 .f32) (Wg : FVec Ideal S1024x8 .f32) (b : FVec Ideal S8 .f32) : FVec Ideal S16384x8 .f32 :=
  fun j => rowProb (logits G Wg b (j 0)) (j 1)
/-- The chosen experts, as a column. -/
def topIdxOf (G : FVec Ideal S16384x1024 .f32) (Wg : FVec Ideal S1024x8 .f32) (b : FVec Ideal S8 .f32) : IVec S16384x1 32 :=
  fun j => rowPick (logits G Wg b (j 0))
/-- Their probabilities, as a column. -/
def topProbsOf (G : FVec Ideal S16384x1024 .f32) (Wg : FVec Ideal S1024x8 .f32) (b : FVec Ideal S8 .f32) : FVec Ideal S16384x1 .f32 :=
  fun j => rowInv (logits G Wg b (j 0))

/-! ## The host's re-layings, entry by entry -/

/-- The bias as a row. -/
theorem bias_row (b : FVec Ideal S8 .f32) (e : Fin 8) : shapeCast S1x8 b shapeCasts_S8_S1x8 (ix2 0 e) = b (ix1 e) := by
  pointwise

/-- The logits do not see the bias's re-laying. -/
theorem rowLogits_bias (G : FVec Ideal S16384x1024 .f32) (Wg : FVec Ideal S1024x8 .f32) (b : FVec Ideal S8 .f32) (i : Fin 16384) :
    rowLogits G Wg (shapeCast S1x8 b shapeCasts_S8_S1x8) i = logits G Wg b i := by
  funext e
  unfold rowLogits logits
  rw [bias_row]

/-- Column `64 e + d` of the experts' weights side by side is column `d` of expert `e`'s. -/
theorem packed_apply (W : FVec Ideal S8x1024x64 .f32) (k : Fin 1024) (e : Fin 8) (d : Fin 64) :
    (truncf .bf16 (shapeCast S1024x512 (transpose S1024x8x64 [1, 0, 2] W transposes_S8x1024x64_S1024x8x64_1_0_2)
      shapeCasts_S1024x8x64_S1024x512) bitsLt_bf16_f32 : FVec Ideal S1024x512 .bf16) (ix2 k ⟨64 * e.val + d.val, by omega⟩)
      = W (ix3 e k d) := by
  pointwise

/-- So the energies computed from them are the experts' own. -/
theorem packedEnergy_packed (X : FVec Ideal S16384x1024 .f32) (W : FVec Ideal S8x1024x64 .f32) :
    packedEnergy X (truncf .bf16 (shapeCast S1024x512 (transpose S1024x8x64 [1, 0, 2] W transposes_S8x1024x64_S1024x8x64_1_0_2)
      shapeCasts_S1024x8x64_S1024x512) bitsLt_bf16_f32) = energy X W := by
  funext e i
  have h (d : Fin 64) : packedHidden X (truncf .bf16 (shapeCast S1024x512 (transpose S1024x8x64 [1, 0, 2] W
      transposes_S8x1024x64_S1024x8x64_1_0_2) shapeCasts_S1024x8x64_S1024x512) bitsLt_bf16_f32) i ⟨64 * e.val + d.val, by omega⟩
        = hidden X W e i d :=
    Finset.sum_congr rfl fun k _ => congrArg (X (ix2 i k) * ·) (packed_apply W k e d)
  unfold packedEnergy energy
  simp only [h]

/-- The transposed probabilities. -/
theorem transposed_apply (x : FVec Ideal S8x16384 .f32) (i : Fin 16384) (e : Fin 8) :
    transpose S16384x8 [1, 0] x transposes_S8x16384_S16384x8_1_0 (ix2 i e) = x (ix2 e i) := by
  pointwise
/-- A row as a list. -/
theorem list_apply (x : IVec S1x16384 32) (i : Fin 16384) : shapeCast S16384 x shapeCasts_S1x16384_S16384 (ix1 i) = x (ix2 0 i) := by
  pointwise
/-- A list as a column. -/
theorem column_apply (x : IVec S16384 32) (i : Fin 16384) : shapeCast S16384x1 x shapeCasts_S16384_S16384x1 (ix2 i 0) = x (ix1 i) := by
  pointwise
/-- A row as a column. -/
theorem rowColumn_apply (x : FVec Ideal S1x16384 .f32) (i : Fin 16384) :
    shapeCast S16384x1 x shapeCasts_S1x16384_S16384x1 (ix2 i 0) = x (ix2 0 i) := by
  pointwise

/-! ## The results -/

variable (m : (ℓ : Loc nD τ sig) → Buf (Elt Ideal) ℓ) (c : Dev nD)

/-- The arguments on device `c`. -/
abbrev arg0 : FVec Ideal S16384x1024 .f32 := m ((c : Thread nD τ).loc main_arg0)
/-- The tokens' features. -/
abbrev arg1 : FVec Ideal S16384x1024 .f32 := m ((c : Thread nD τ).loc main_arg1)
/-- The gate's weights. -/
abbrev arg2 : FVec Ideal S1024x8 .f32 := m ((c : Thread nD τ).loc main_arg2)
/-- The gate's bias. -/
abbrev arg3 : FVec Ideal S8 .f32 := m ((c : Thread nD τ).loc main_arg3)
/-- The experts' weights. -/
abbrev arg4 : FVec Ideal S8x1024x64 .f32 := m ((c : Thread nD τ).loc main_arg4)

/-- The router sees the arguments' logits. -/
theorem entryLogits_W1 (i : Fin 16384) : entryLogits (W1 m) c i = logits (arg0 m c) (arg2 m c) (arg3 m c) i := by
  have h0 : W1 m c main_arg0 = arg0 m c := W1_keeps m c main_arg0 (by decide)
  have h2 : W1 m c main_arg2 = arg2 m c := W1_keeps m c main_arg2 (by decide)
  unfold entryLogits
  rw [h0, h2, W1_bias]
  exact rowLogits_bias _ _ _ _

/-- The choices the expert call reads. -/
theorem pick_W2 : W2 m c main_v4_1 = ((fun j => rowPick (logits (arg0 m c) (arg2 m c) (arg3 m c) (j 1))) : IVec S1x16384 32) := by
  rw [W2_pick, router_pick]
  exact funext fun j => congrArg rowPick (entryLogits_W1 m c (j 1))
/-- The probabilities the router call leaves. -/
theorem probs_W2 : W2 m c main_v4_0
    = ((fun j => rowProb (logits (arg0 m c) (arg2 m c) (arg3 m c) (j 1)) (j 0)) : FVec Ideal S8x16384 .f32) := by
  rw [W2_probs, router_probs]
  exact funext fun j => congrArg (rowProb · (j 0)) (entryLogits_W1 m c (j 1))
/-- The chosen probabilities it leaves. -/
theorem top_W2 : W2 m c main_v4_2 = ((fun j => rowInv (logits (arg0 m c) (arg2 m c) (arg3 m c) (j 1))) : FVec Ideal S1x16384 .f32) := by
  rw [W2_top, router_top]
  exact funext fun j => congrArg rowInv (entryLogits_W1 m c (j 1))

/-- The energies the expert call computes. -/
theorem entryEnergy_W2 : entryEnergy (W2 m) c = energy (arg1 m c) (arg4 m c) := by
  have h1 : W2 m c main_arg1 = arg1 m c := (W2_keeps m c main_arg1 (by decide)).trans (W1_keeps m c main_arg1 (by decide))
  have h2 := (W2_keeps m c main_v2 (by decide)).trans (W1_weights m c)
  unfold entryEnergy
  rw [h1, h2]
  exact packedEnergy_packed _ _

/-- The same choices, token by token. -/
theorem entryPick_W2 : entryPick (W2 m) c = fun i => rowPick (logits (arg0 m c) (arg2 m c) (arg3 m c) i) := by
  unfold entryPick
  rw [pick_W2]
  rfl

/-- Result 1: the loss. -/
theorem result_loss : W4 m c main_v7 = lossOf (arg0 m c) (arg1 m c) (arg2 m c) (arg3 m c) (arg4 m c) := by
  rw [W4_loss, W3_loss, expert_loss, entryPick_W2, entryEnergy_W2]
  rfl

/-- Result 2: the assignments. -/
theorem result_assign : W4 m c main_v6 = assignOf (arg0 m c) (arg2 m c) (arg3 m c) := by
  rw [W4_assign, W3_keeps m c main_v4_1 (by decide), pick_W2]
  funext j
  obtain ⟨i, rfl⟩ : ∃ i : Fin 16384, j = ix1 i := ⟨j 0, eq_ix1 j⟩
  exact list_apply _ i

/-- Result 3: the probabilities. -/
theorem result_probs : W4 m c main_v8 = probsOf (arg0 m c) (arg2 m c) (arg3 m c) := by
  rw [W4_probs, W3_keeps m c main_v4_0 (by decide), probs_W2]
  funext j
  obtain ⟨i, e, rfl⟩ : ∃ (i : Fin 16384) (e : Fin 8), j = ix2 i e := ⟨j 0, j 1, eq_ix2 j⟩
  exact transposed_apply _ i e

/-- Result 4: the chosen experts. -/
theorem result_topIdx : W4 m c main_v9 = topIdxOf (arg0 m c) (arg2 m c) (arg3 m c) := by
  rw [W4_topIdx, W3_keeps m c main_v4_1 (by decide), pick_W2]
  funext j
  obtain ⟨i, z, rfl⟩ : ∃ (i : Fin 16384) (z : Fin 1), j = ix2 i z := ⟨j 0, j 1, eq_ix2 j⟩
  obtain rfl := Subsingleton.elim z 0
  exact (column_apply _ i).trans (list_apply _ i)

/-- Result 5: their probabilities. -/
theorem result_topProbs : W4 m c main_v10 = topProbsOf (arg0 m c) (arg2 m c) (arg3 m c) := by
  rw [W4_topProbs, W3_keeps m c main_v4_2 (by decide), top_W2]
  funext j
  obtain ⟨i, z, rfl⟩ : ∃ (i : Fin 16384) (z : Fin 1), j = ix2 i z := ⟨j 0, j 1, eq_ix2 j⟩
  obtain rfl := Subsingleton.elim z 0
  exact rowColumn_apply _ i

/-- The kernel's run: its five results as functions of its arguments, and the arguments unchanged. -/
theorem kernel_results (ρ : Dev nD → PrngReg) :
    θ_run defs (onTc (τ := τ) (main (F := Ideal))) ⟨m, fun _ => 0, ρ⟩ (fun r => ∀ c : Dev nD,
      r.2.mem ((c : Thread nD τ).loc main_v7) = lossOf (arg0 m c) (arg1 m c) (arg2 m c) (arg3 m c) (arg4 m c)
      ∧ r.2.mem ((c : Thread nD τ).loc main_v6) = assignOf (arg0 m c) (arg2 m c) (arg3 m c)
      ∧ r.2.mem ((c : Thread nD τ).loc main_v8) = probsOf (arg0 m c) (arg2 m c) (arg3 m c)
      ∧ r.2.mem ((c : Thread nD τ).loc main_v9) = topIdxOf (arg0 m c) (arg2 m c) (arg3 m c)
      ∧ r.2.mem ((c : Thread nD τ).loc main_v10) = topProbsOf (arg0 m c) (arg2 m c) (arg3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run defs _ _).mono (fun _ h c =>
    have at_ (k : Ref sig .tc) (hk : _) := h.1 c (Proc.devRef .tc k) (Finset.mem_filter.mpr ⟨StableHlo.devRef_mem_tcRefs k, hk⟩)
    ⟨(at_ main_v7 (by decide)).trans (result_loss m c), (at_ main_v6 (by decide)).trans (result_assign m c),
     (at_ main_v8 (by decide)).trans (result_probs m c), (at_ main_v9 (by decide)).trans (result_topIdx m c),
     (at_ main_v10 (by decide)).trans (result_topProbs m c),
     (at_ main_arg0 (by decide)).trans (W4_arg0 m c), (at_ main_arg1 (by decide)).trans (W4_arg1 m c),
     (at_ main_arg2 (by decide)).trans (W4_arg2 m c), (at_ main_arg3 (by decide)).trans (W4_arg3 m c),
     (at_ main_arg4 (by decide)).trans (W4_arg4 m c)⟩) (kernel_run m ρ)

end Cert.Moe

end
-- ==== Proof.ReferenceResults.lean ====
/-
  The reference's five results as the same functions of its arguments, where the logits are real.
-/
module

public import proofs.«01_k».proof.Proof.KernelResults

@[expose] public section

set_option maxRecDepth 16384

noncomputable section

namespace Cert.Moe

open Cert.ReferenceIdeal Cert.ReferenceIdeal.Gen Cert.ReferenceIdeal.Value
open Idealize.ShloMosaic Idealize.ShloMosaic.TcCoe Idealize.SL.Sem

section
variable (V : Valuation τ sig (Elt Ideal)) (hl : ∀ i e, ∃ x : ℝ, refLogits V i e = x)
include hl

/-- Result 1: the loss. -/
theorem ref_result_loss :
    addf (res_main_v148 V) (refShare (res_main_v150 V) (res_main_v152 V) (res_main_v155 V))
      = lossOf (V main_arg0) (V main_arg1) (V main_arg2) (V main_arg3) (V main_arg4) := by
  rw [ref_loss]
  have h : (fun i => (res_main_v15 V : IVec S16384 32) (ix1 i)) = fun i => rowPick (refLogits V i) := funext fun i => ref_assign V i (hl i)
  exact congrArg (fun a : Fin 16384 → BitVec 32 => ((fun _ => loss a (energy (V main_arg1) (V main_arg4))) : FVec Ideal S_ .f32)) h

/-- Result 2: the assignments. -/
theorem ref_result_assign : res_main_v15 V = assignOf (V main_arg0) (V main_arg2) (V main_arg3) := by
  funext j
  obtain ⟨i, rfl⟩ : ∃ i : Fin 16384, j = ix1 i := ⟨j 0, eq_ix1 j⟩
  exact ref_assign V i (hl i)

/-- Result 3: the probabilities. -/
theorem ref_result_probs : res_main_v14 V = probsOf (V main_arg0) (V main_arg2) (V main_arg3) := by
  funext j
  obtain ⟨i, e, rfl⟩ : ∃ (i : Fin 16384) (e : Fin 8), j = ix2 i e := ⟨j 0, j 1, eq_ix2 j⟩
  exact ref_prob V i (hl i) e

/-- Result 4: the chosen experts. -/
theorem ref_result_topIdx :
    (Host.topK S16384x1 1 (FloatOps.cmpfTotal (F := Ideal) (φ := .f32) .gt) (res_main_v14 V) sliceFits_S16384x8_S16384x1).2
      = topIdxOf (V main_arg0) (V main_arg2) (V main_arg3) := by
  funext j
  obtain ⟨i, z, rfl⟩ : ∃ (i : Fin 16384) (z : Fin 1), j = ix2 i z := ⟨j 0, j 1, eq_ix2 j⟩
  obtain rfl := Subsingleton.elim z 0
  exact (ref_top V i (hl i)).2

/-- Result 5: their probabilities. -/
theorem ref_result_topProbs :
    (Host.topK S16384x1 1 (FloatOps.cmpfTotal (F := Ideal) (φ := .f32) .gt) (res_main_v14 V) sliceFits_S16384x8_S16384x1).1
      = topProbsOf (V main_arg0) (V main_arg2) (V main_arg3) := by
  funext j
  obtain ⟨i, z, rfl⟩ : ∃ (i : Fin 16384) (z : Fin 1), j = ix2 i z := ⟨j 0, j 1, eq_ix2 j⟩
  obtain rfl := Subsingleton.elim z 0
  exact (ref_top V i (hl i)).1

end

variable (m : (ℓ : Loc nD τ sig) → Buf (Elt Ideal) ℓ) (ρ : Dev nD → PrngReg)

/-- The reference's arguments on device `c`. -/
abbrev refArg0 (c : Dev nD) : FVec Ideal S16384x1024 .f32 := m ((c : Thread nD τ).loc main_arg0)
/-- The tokens' features. -/
abbrev refArg1 (c : Dev nD) : FVec Ideal S16384x1024 .f32 := m ((c : Thread nD τ).loc main_arg1)
/-- The gate's weights. -/
abbrev refArg2 (c : Dev nD) : FVec Ideal S1024x8 .f32 := m ((c : Thread nD τ).loc main_arg2)
/-- The gate's bias. -/
abbrev refArg3 (c : Dev nD) : FVec Ideal S8 .f32 := m ((c : Thread nD τ).loc main_arg3)
/-- The experts' weights. -/
abbrev refArg4 (c : Dev nD) : FVec Ideal S8x1024x64 .f32 := m ((c : Thread nD τ).loc main_arg4)

/-- The reference's run: where its logits are real, its five results are the functions of its arguments the kernel's are,
    and the arguments are unchanged. -/
theorem reference_results (hl : ∀ c i e, ∃ x : ℝ, logits (refArg0 m c) (refArg2 m c) (refArg3 m c) i e = x) :
    θ_run defs (onTc (τ := τ) (main (F := Ideal))) ⟨m, fun _ => 0, ρ⟩ (fun r => ∀ c : Dev nD,
      r.2.mem ((c : Thread nD τ).loc main_v167) = lossOf (refArg0 m c) (refArg1 m c) (refArg2 m c) (refArg3 m c) (refArg4 m c)
      ∧ r.2.mem ((c : Thread nD τ).loc main_v15) = assignOf (refArg0 m c) (refArg2 m c) (refArg3 m c)
      ∧ r.2.mem ((c : Thread nD τ).loc main_v14) = probsOf (refArg0 m c) (refArg2 m c) (refArg3 m c)
      ∧ r.2.mem ((c : Thread nD τ).loc main_indices) = topIdxOf (refArg0 m c) (refArg2 m c) (refArg3 m c)
      ∧ r.2.mem ((c : Thread nD τ).loc main_values) = topProbsOf (refArg0 m c) (refArg2 m c) (refArg3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run defs _ _).mono (fun _ h c =>
    ⟨(h c).1.trans (ref_result_loss (StableHlo.launchContents m c) (hl c)), (h c).2.1.trans (ref_result_assign (StableHlo.launchContents m c) (hl c)),
     (h c).2.2.1.trans (ref_result_probs (StableHlo.launchContents m c) (hl c)), (h c).2.2.2.1.trans (ref_result_topIdx (StableHlo.launchContents m c) (hl c)),
     (h c).2.2.2.2.1.trans (ref_result_topProbs (StableHlo.launchContents m c) (hl c)), (h c).2.2.2.2.2⟩)
    (run m ρ)

/-- The reference's frame: it terminates with its arguments unchanged; it has no semaphore. -/
theorem reference_frame :
    θ_run defs (onTc (τ := τ) (main (F := Ideal))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun r h => ⟨fun c => (h c).2.2.2.2.2, sem_eq_zero_of_no_sems (by decide) r.2⟩) (run m ρ)

end Cert.Moe

end
-- ==== Proof.Precondition.lean ====
/-
  What the claims' precondition says: every token's logits are real numbers.
-/
module

public import proofs.«01_k».proof.Defs
public import proofs.«01_k».proof.Proof.ReferenceValue

@[expose] public section

noncomputable section

namespace Cert.Moe

open Idealize.ShloMosaic Idealize.SL.Sem

/-- The side conditions of the precondition's own operations. -/
theorem preFacts : Cert.Pre_logits_finite.Facts where
  bcast_S8_S1x8_1 := by decide
  bcast_S1x8_S16384x8_0_1 := by decide
  bcast_S_S16384x8 := by decide
  dot_S16384x1024_S1024x8_S16384x8_1_0_0_1_n_n_wf := by decide

/-- The precondition's bound is infinity. -/
theorem ofBits_pos_inf : Ideal.ofBits .f32 0x7F800000#32 = ⊤ := by simp [Ideal.ofBits, Ideal.ieee]

/-- A number of absolute value below infinity is real. -/
theorem real_of_abs_lt_top {x : EReal} (h : max x (-x) < ⊤) : ∃ r : ℝ, x = r := by
  induction x with
  | bot => simp at h
  | top => simp at h
  | coe r => exact ⟨r, rfl⟩

attribute [local instance] preFacts

/-- Where the precondition holds, every logit is real. -/
theorem logits_real (G X : FVec Ideal Cert.Pre_logits_finite.S16384x1024 .f32) (Wg : FVec Ideal Cert.Pre_logits_finite.S1024x8 .f32)
    (b : FVec Ideal Cert.Pre_logits_finite.S8 .f32) (W : FVec Ideal Cert.Pre_logits_finite.S8x1024x64 .f32)
    (h : Cert.Pre_logits_finite.fn (F := Ideal) G X Wg b W = fun _ => 1#1) (i : Fin 16384) (e : Fin 8) :
    ∃ r : ℝ, logits G Wg b i e = r := by
  refine real_of_abs_lt_top ?_
  have h1 := congrFun h (ix2 i e)
  revert h1
  pointwise [Cert.Pre_logits_finite.fn]
  rw [ofBits_pos_inf]
  intro h1
  by_contra hn
  have h2 : ¬ FloatOps.absf (F := Ideal) (φ := .f32) ((∑ k : Fin 1024, G (ix2 i k) * Wg (ix2 k e)) + b (ix1 e)) < (⊤ : EReal) := hn
  rw [decide_eq_false h2] at h1
  exact absurd h1 (by decide)

end Cert.Moe

end
-- ==== Proof.lean ====
/-
  The certificate's claims, assembled: the frames of the kernel, of its idealization and of the reference, that the
  idealization is the kernel, and that over the extended reals the idealization's five results are the reference's wherever
  the logits are real. The modules under Proof/ prove the parts:
  - RouterRegion, ExpertRegion: each call's body on its blocks; KernelRun: the whole run; KernelBuffers: what the buffers
    hold stage by stage, and the frame; KernelFrame: the frame for the kernel as it stands;
  - RowMath: a row of eight logits, its softmax and its first largest entry; RouterValue, ExpertValue: the bodies' values
    entry by entry; RouterArrays, ExpertArrays: the calls' arrays; KernelResults: the five results;
  - ReferenceValue, ReferenceLoss, ReferenceResults: the same for the reference; Precondition: what the precondition says.
-/
module

public import proofs.«01_k».proof.Defs
public import proofs.«01_k».proof.Proof.KernelFrame
public import proofs.«01_k».proof.Proof.ReferenceResults
public import proofs.«01_k».proof.Proof.Precondition
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.ShloMosaic.TcCoe Idealize.SL.Sem Cert.Moe

attribute [local instance] Cert.Kernel.Gen.facts Cert.KernelIdeal.Gen.facts Cert.ReferenceIdeal.Gen.facts preFacts

/-- The idealization's frame. -/
theorem ideal_frame : Cert.quiescent_KernelIdeal := fun m ρ _ => kernel_frame m ρ

/-- The same under the precondition. -/
theorem ideal_frame_pre : Cert.quiescent_KernelIdeal_pre_logits_finite := fun m ρ _ => kernel_frame m ρ

/-- The reference's frame. -/
theorem ref_frame : Cert.quiescent_ReferenceIdeal := fun m ρ _ => reference_frame m ρ

/-- The same under the precondition. -/
theorem ref_frame_pre : Cert.quiescent_ReferenceIdeal_pre_logits_finite := fun m ρ _ => reference_frame m ρ

/-- The five results agree: from equal arguments whose logits are real, both runs end at the same five functions of them. -/
theorem results_agree : Cert.algebraic_KernelIdeal_ReferenceIdeal_pre_logits_finite := by
  intro m g m' g' hpre hargs
  refine ⟨fun c => lossOf (arg0 m c) (arg1 m c) (arg2 m c) (arg3 m c) (arg4 m c), fun c => assignOf (arg0 m c) (arg2 m c) (arg3 m c),
    fun c => probsOf (arg0 m c) (arg2 m c) (arg3 m c), fun c => topIdxOf (arg0 m c) (arg2 m c) (arg3 m c),
    fun c => topProbsOf (arg0 m c) (arg2 m c) (arg3 m c), kernel_results m g, ?_⟩
  have h0 (c) : refArg0 m' c = arg0 m c := (hargs c).1
  have h1 (c) : refArg1 m' c = arg1 m c := (hargs c).2.1
  have h2 (c) : refArg2 m' c = arg2 m c := (hargs c).2.2.1
  have h3 (c) : refArg3 m' c = arg3 m c := (hargs c).2.2.2.1
  have h4 (c) : refArg4 m' c = arg4 m c := (hargs c).2.2.2.2
  have h := reference_results m' g' fun c i e => by
    rw [h0, h2, h3]
    exact logits_real (arg0 m c) (arg1 m c) (arg2 m c) (arg3 m c) (arg4 m c) (hpre c) i e
  exact (θ_run Cert.ReferenceIdeal.defs _ _).mono (fun _ hr c =>
    ⟨(hr c).1.trans (by simp only [h0, h1, h2, h3, h4]), (hr c).2.1.trans (by simp only [h0, h2, h3]),
     (hr c).2.2.1.trans (by simp only [h0, h2, h3]), (hr c).2.2.2.1.trans (by simp only [h0, h2, h3]),
     (hr c).2.2.2.2.1.trans (by simp only [h0, h2, h3]), (hr c).2.2.2.2.2⟩) h

theorem claim : Cert.Claim :=
  ⟨Cert.Kernel.Gen.facts, Cert.KernelIdeal.Gen.facts, Cert.ReferenceIdeal.Gen.facts, preFacts,
    kernel_frame_as_is, ideal_frame, ideal_frame_pre, ref_frame, ref_frame_pre, trivial, results_agree⟩

end Cert.Proof

end
